-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mel_bands [hPre_mel_bands : Cert.Pre_mel_bands.Facts] (m : (ℓ : Loc Cert.KernelIdeal.nD Cert.KernelIdeal.τ Cert.KernelIdeal.sig) → Buf (Elt Ideal) ℓ) : Prop :=
  ∀ c : Dev Cert.KernelIdeal.nD,
    (Cert.Pre_mel_bands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mel_bands [hPre_mel_bands : Cert.Pre_mel_bands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mel_bands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_mel_bands [hKernelIdeal : Cert.KernelIdeal.Facts] [hPre_mel_bands : Cert.Pre_mel_bands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mel_bands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_mel_bands [hReferenceIdeal : Cert.ReferenceIdeal.Facts] [hPre_mel_bands : Cert.Pre_mel_bands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mel_bands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_mel_bands [hKernelIdeal : Cert.KernelIdeal.Facts] [hReferenceIdeal : Cert.ReferenceIdeal.Facts] [hPre_mel_bands : Cert.Pre_mel_bands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mel_bands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_mel_bands : Cert.Pre_mel_bands.Facts),
    quiescent_Kernel (hKernel := hKernel)
    ∧ quiescent_KernelIdeal (hKernelIdeal := hKernelIdeal)
    ∧ quiescent_KernelIdeal_pre_mel_bands (hKernelIdeal := hKernelIdeal) (hPre_mel_bands := hPre_mel_bands)
    ∧ quiescent_ReferenceIdeal (hReferenceIdeal := hReferenceIdeal)
    ∧ quiescent_ReferenceIdeal_pre_mel_bands (hReferenceIdeal := hReferenceIdeal) (hPre_mel_bands := hPre_mel_bands)
    ∧ preserves_Kernel_KernelIdeal
    ∧ algebraic_KernelIdeal_ReferenceIdeal_pre_mel_bands (hKernelIdeal := hKernelIdeal) (hReferenceIdeal := hReferenceIdeal) (hPre_mel_bands := hPre_mel_bands)
-- ==== Pre_mel_bands.lean ====
abbrev S4x128x256x64 : Shape := ⟨4, ![4, 128, 256, 64]⟩
abbrev S64x128x2x125 : Shape := ⟨4, ![64, 128, 2, 125]⟩
abbrev S64x2x125 : Shape := ⟨3, ![64, 2, 125]⟩
abbrev S64x125 : Shape := ⟨2, ![64, 125]⟩
abbrev S1025 : Shape := ⟨1, ![1025]⟩
abbrev S64 : Shape := ⟨1, ![64]⟩
abbrev S64x1 : Shape := ⟨2, ![64, 1]⟩
abbrev S_ : Shape := ⟨0, ![]⟩
abbrev S64x1x125 : Shape := ⟨3, ![64, 1, 125]⟩

class Facts : Prop where
  bcast_S64_S64x1_0 : S64.BroadcastsInDim S64x1 (![0] : Fin 1 → Fin S64x1.rank)
  bcast_S64x1_S64x125_0_1 : S64x1.BroadcastsInDim S64x125 (![0, 1] : Fin 2 → Fin S64x125.rank)
  bcast_S_S64x125 : S_.BroadcastsInDim S64x125 (![] : Fin 0 → Fin S64x125.rank)
  bcast_S64x125_S64x1x125_0_2 : S64x125.BroadcastsInDim S64x1x125 (![0, 2] : Fin 2 → Fin S64x1x125.rank)
  bcast_S_S64x2x125 : S_.BroadcastsInDim S64x2x125 (![] : Fin 0 → Fin S64x2x125.rank)
  bcast_S64x1x125_S64x2x125_0_1_2 : S64x1x125.BroadcastsInDim S64x2x125 (![0, 1, 2] : Fin 3 → Fin S64x2x125.rank)
  bcast_S_S1025 : S_.BroadcastsInDim S1025 (![] : Fin 0 → Fin S1025.rank)
  reducesTo_S1025_S_d0 : S1025.ReducesTo [0] S_
  h_S_ : 0 < S_.numel

variable [Facts]

noncomputable abbrev lit0 : Fin 64 → BitVec 32 := fun
  | 0 => 0#32 | 1 => 1#32 | 2 => 3#32 | 3 => 6#32 | 4 => 9#32 | 5 => 12#32 | 6 => 15#32 | 7 => 18#32
  | 8 => 21#32 | 9 => 24#32 | 10 => 27#32 | 11 => 30#32 | 12 => 33#32 | 13 => 36#32 | 14 => 39#32 | 15 => 42#32
  | 16 => 45#32 | 17 => 48#32 | 18 => 51#32 | 19 => 54#32 | 20 => 58#32 | 21 => 62#32 | 22 => 66#32 | 23 => 70#32
  | 24 => 75#32 | 25 => 80#32 | 26 => 86#32 | 27 => 91#32 | 28 => 97#32 | 29 => 104#32 | 30 => 111#32 | 31 => 119#32
  | 32 => 127#32 | 33 => 135#32 | 34 => 144#32 | 35 => 154#32 | 36 => 164#32 | 37 => 175#32 | 38 => 187#32 | 39 => 200#32
  | 40 => 213#32 | 41 => 228#32 | 42 => 243#32 | 43 => 259#32 | 44 => 277#32 | 45 => 296#32 | 46 => 316#32 | 47 => 337#32
  | 48 => 360#32 | 49 => 384#32 | 50 => 410#32 | 51 => 438#32 | 52 => 467#32 | 53 => 499#32 | 54 => 533#32 | 55 => 569#32
  | 56 => 607#32 | 57 => 648#32 | 58 => 692#32 | 59 => 739#32 | 60 => 789#32 | 61 => 842#32 | 62 => 899#32 | 63 => 959#32
  | _ => 0#32

def fn_part1 {F : FTy → Type} [FloatOps F] (main_arg4 : FVec F S1025 .f32) (main_v12 : IVec S64x2x125 1) (main_v18 : IVec S64x125 1) : IVec S64x2x125 1 :=
  let main_v19 : IVec S64x1x125 1 := broadcastInDim S64x1x125 ![0, 2] bcast_S64x125_S64x1x125_0_2 main_v18
  let main_v20 : IVec S64x2x125 1 := broadcastInDim S64x2x125 ![0, 1, 2] bcast_S64x1x125_S64x2x125_0_1_2 main_v19
  let main_v21 : IVec S64x2x125 1 := andi main_v12 main_v20
  let main_cst_3 : FVec F S_ .f32 := constant S_ .f32 0x00000000#32
  let main_v22 : FVec F S1025 .f32 := broadcastInDim S1025 ![] bcast_S_S1025 main_cst_3
  let main_v23 : IVec S1025 1 := cmpf .une main_arg4 main_v22
  let main_c_4 : IVec S_ 1 := constantI S_ 1 1#1
  let main_v24 : IVec S_ 1 := (fun x v => Host.reduce IntOp.andi x v reducesTo_S1025_S_d0 h_S_) main_v23 main_c_4
  let main_v25 : IVec S64x2x125 1 := broadcastInDim S64x2x125 ![] bcast_S_S64x2x125 main_v24
  let main_v26 : IVec S64x2x125 1 := andi main_v21 main_v25
  main_v26

def fn {F : FTy → Type} [FloatOps F] (main_arg0 : FVec F S4x128x256x64 .f32) (main_arg1 : FVec F S64x128x2x125 .f32) (main_arg2 : FVec F S64x2x125 .f32) (main_arg3 : FVec F S64x125 .f32) (main_arg4 : FVec F S1025 .f32) (main_arg5 : IVec S64x125 32) : IVec S64x2x125 1 :=
  let main_c : IVec S64 32 := fun i => lit0 (S64.rowMajor i)
  let main_v0 : IVec S64x1 32 := broadcastInDim S64x1 ![0] bcast_S64_S64x1_0 main_c
  let main_v1 : IVec S64x125 32 := iotaInDim S64x125 32 1
  let main_v2 : IVec S64x125 32 := broadcastInDim S64x125 ![0, 1] bcast_S64x1_S64x125_0_1 main_v0
  let main_v3 : IVec S64x125 32 := addi main_v2 main_v1
  let main_cst : FVec F S_ .f32 := constant S_ .f32 0x00000000#32
  let main_v4 : FVec F S64x125 .f32 := broadcastInDim S64x125 ![] bcast_S_S64x125 main_cst
  let main_v5 : IVec S64x125 1 := cmpf .oeq main_arg3 main_v4
  let main_v6 : IVec S64x125 1 := cmpi .eq main_arg5 main_v3
  let main_v7 : IVec S64x125 1 := ori main_v5 main_v6
  let main_v8 : IVec S64x1x125 1 := broadcastInDim S64x1x125 ![0, 2] bcast_S64x125_S64x1x125_0_2 main_v5
  let main_cst_0 : FVec F S_ .f32 := constant S_ .f32 0x00000000#32
  let main_v9 : FVec F S64x2x125 .f32 := broadcastInDim S64x2x125 ![] bcast_S_S64x2x125 main_cst_0
  let main_v10 : IVec S64x2x125 1 := cmpf .oeq main_arg2 main_v9
  let main_v11 : IVec S64x2x125 1 := broadcastInDim S64x2x125 ![0, 1, 2] bcast_S64x1x125_S64x2x125_0_1_2 main_v8
  let main_v12 : IVec S64x2x125 1 := ori main_v11 main_v10
  let main_cst_1 : FVec F S_ .f32 := constant S_ .f32 0x00000000#32
  let main_v13 : FVec F S64x125 .f32 := broadcastInDim S64x125 ![] bcast_S_S64x125 main_cst_1
  let main_v14 : IVec S64x125 1 := cmpf .oge main_arg3 main_v13
  let main_cst_2 : FVec F S_ .f32 := constant S_ .f32 0x7F800000#32
  let main_v15 : FVec F S64x125 .f32 := broadcastInDim S64x125 ![] bcast_S_S64x125 main_cst_2
  let main_v16 : IVec S64x125 1 := cmpf .olt main_arg3 main_v15
  let main_v17 : IVec S64x125 1 := andi main_v14 main_v16
  let main_v18 : IVec S64x125 1 := andi main_v7 main_v17
  fn_part1 (F := F) main_arg4 main_v12 main_v18
-- ==== Kernel.lean ====
abbrev S4x128x256x64 : Shape := ⟨4, ![4, 128, 256, 64]⟩
abbrev S64x128x2x125 : Shape := ⟨4, ![64, 128, 2, 125]⟩
abbrev S64x2x125 : Shape := ⟨3, ![64, 2, 125]⟩
abbrev S64x125 : Shape := ⟨2, ![64, 125]⟩
abbrev S1025 : Shape := ⟨1, ![1025]⟩
abbrev S2x64 : Shape := ⟨2, ![2, 64]⟩
abbrev S64x4x256x128 : Shape := ⟨4, ![64, 4, 256, 128]⟩
abbrev S64x1024x128 : Shape := ⟨3, ![64, 1024, 128]⟩
abbrev S64x1x1x125 : Shape := ⟨4, ![64, 1, 1, 125]⟩
abbrev S64x128x250 : Shape := ⟨3, ![64, 128, 250]⟩
abbrev S_ : Shape := ⟨0, ![]⟩
abbrev S1088 : Shape := ⟨1, ![1088]⟩
abbrev S1x1088 : Shape := ⟨2, ![1, 1088]⟩
abbrev S4x2x256x1088 : Shape := ⟨4, ![4, 2, 256, 1088]⟩
abbrev S4x2x256x1025 : Shape := ⟨4, ![4, 2, 256, 1025]⟩
abbrev S4x1024x128 : Shape := ⟨3, ![4, 1024, 128]⟩
abbrev S4x128x250 : Shape := ⟨3, ![4, 128, 250]⟩
abbrev S4x2x256x1152 : Shape := ⟨4, ![4, 2, 256, 1152]⟩
abbrev S1024x131 : Shape := ⟨2, ![1024, 131]⟩
abbrev S1x1024x128 : Shape := ⟨3, ![1, 1024, 128]⟩
abbrev S1024x128 : Shape := ⟨2, ![1024, 128]⟩
abbrev S1x128x250 : Shape := ⟨3, ![1, 128, 250]⟩
abbrev S128x250 : Shape := ⟨2, ![128, 250]⟩
abbrev S1024x250 : Shape := ⟨2, ![1024, 250]⟩
abbrev S1x1 : Shape := ⟨2, ![1, 1]⟩
abbrev S1024x125 : Shape := ⟨2, ![1024, 125]⟩
abbrev S1024x256 : Shape := ⟨2, ![1024, 256]⟩
abbrev S4x1x256x256 : Shape := ⟨4, ![4, 1, 256, 256]⟩
abbrev S4x256x256 : Shape := ⟨3, ![4, 256, 256]⟩
abbrev S1x1x1x1088 : Shape := ⟨4, ![1, 1, 1, 1088]⟩

abbrev nBuf : Space → Nat
  | .hbm => 19
  | .vmem => 7
  | .smem => 1
  | _ => 0

abbrev bufTy : (tb : Table) → Fin (tcTables nBuf tb) → BufTy
  | .hbm, ⟨0, _⟩ => ⟨S4x128x256x64, .f32⟩
  | .hbm, ⟨1, _⟩ => ⟨S64x128x2x125, .f32⟩
  | .hbm, ⟨2, _⟩ => ⟨S64x2x125, .f32⟩
  | .hbm, ⟨3, _⟩ => ⟨S64x125, .f32⟩
  | .hbm, ⟨4, _⟩ => ⟨S1025, .f32⟩
  | .hbm, ⟨5, _⟩ => ⟨S64x125, .i32⟩
  | .hbm, ⟨6, _⟩ => ⟨S64x4x256x128, .f32⟩
  | .hbm, ⟨7, _⟩ => ⟨S64x1024x128, .f32⟩
  | .hbm, ⟨8, _⟩ => ⟨S64x1x1x125, .f32⟩
  | .hbm, ⟨9, _⟩ => ⟨S64x128x2x125, .f32⟩
  | .hbm, ⟨10, _⟩ => ⟨S64x128x2x125, .f32⟩
  | .hbm, ⟨11, _⟩ => ⟨S64x128x250, .f32⟩
  | .hbm, ⟨12, _⟩ => ⟨S64x128x250, .bf16⟩
  | .hbm, ⟨13, _⟩ => ⟨S_, .f32⟩
  | .hbm, ⟨14, _⟩ => ⟨S_, .f32⟩
  | .hbm, ⟨15, _⟩ => ⟨S1088, .f32⟩
  | .hbm, ⟨16, _⟩ => ⟨S1x1088, .f32⟩
  | .hbm, ⟨17, _⟩ => ⟨S4x2x256x1088, .f32⟩
  | .hbm, ⟨18, _⟩ => ⟨S4x2x256x1025, .f32⟩
  | .local _ .vmem, ⟨0, _⟩ => ⟨S4x1024x128, .f32⟩
  | .local _ .vmem, ⟨1, _⟩ => ⟨S4x1024x128, .f32⟩
  | .local _ .vmem, ⟨2, _⟩ => ⟨S4x128x250, .bf16⟩
  | .local _ .vmem, ⟨3, _⟩ => ⟨S4x128x250, .bf16⟩
  | .local _ .vmem, ⟨4, _⟩ => ⟨S1x1088, .f32⟩
  | .local _ .vmem, ⟨5, _⟩ => ⟨S4x2x256x1088, .f32⟩
  | .local _ .vmem, ⟨6, _⟩ => ⟨S4x2x256x1152, .f32⟩
  | .local _ .smem, ⟨0, _⟩ => ⟨S2x64, .i32⟩
  | _, _ => ⟨S4x128x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst : Ref sig .tc := ⟨.hbm, 13, rfl⟩
abbrev main_call0_call0_v0 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_v0 : Ref sig .tc := ⟨.hbm, 18, rfl⟩
abbrev main_call0_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_call0_c.idx], fun | 0 => main_call0_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0_8 : Index := 0#32
  let arg0 : BitVec 32 := BitVec.ofNat 32 (i 0).val
  let c4_i32 : BitVec 32 := 4#32
  let v4 : BitVec 32 := Scalar.muli arg0 c4_i32
  let c0_i32_1 : BitVec 32 := 0#32
  let v5 : BitVec 32 := Scalar.addi v4 c0_i32_1
  let v12 : Index := Scalar.indexCast v5
  ![0, v12.toNat]
def k0_off2 (i : grid0.Coords) : Fin 2 → Nat :=
  let c1 : Index := 1#32
  let arg0 : BitVec 32 := BitVec.ofNat 32 (i 0).val
  let c4_i32 : BitVec 32 := 4#32
  let v4 : BitVec 32 := Scalar.muli arg0 c4_i32
  let c0_i32_1 : BitVec 32 := 0#32
  let v5 : BitVec 32 := Scalar.addi v4 c0_i32_1
  let v15 : Index := Scalar.indexCast v5
  ![1, v15.toNat]
def k0_off3 (v13 : BitVec 32) : Fin 4 → Nat :=
  let c0_9 : Index := 0#32
  let c0_10 : Index := 0#32
  let c0_11 : Index := 0#32
  let c128_i32 : BitVec 32 := 128#32
  let v14 : BitVec 32 := Scalar.muli v13 c128_i32
  let v23 : Index := Scalar.indexCast v14
  ![0, 0, 0, v23.toNat]

def k0_off4 (v13 : BitVec 32) : Fin 4 → Nat :=
  let c0_15 : Index := 0#32
  let c1_16 : Index := 1#32
  let c0_17 : Index := 0#32
  let c128_i32 : BitVec 32 := 128#32
  let v14 : BitVec 32 := Scalar.muli v13 c128_i32
  let v32 : Index := Scalar.indexCast v14
  ![0, 1, 0, v32.toNat]

def k0_chk1 (v13 : BitVec 32) : Prop :=
  (∀ a, (k0_off3 v13) a + S4x1x256x256.size a ≤ S4x2x256x1152.size a) ∧
  (∀ a, (k0_off4 v13) a + S4x1x256x256.size a ≤ S4x2x256x1152.size a)
theorem k0_off3_inb : ∀ (v13 : BitVec 32) (k0_hw1 : k0_chk1 v13), ∀ a, (k0_off3 v13) a + S4x1x256x256.size a ≤ S4x2x256x1152.size a := fun v13 k0_hw1 => k0_hw1.1
theorem k0_off4_inb : ∀ (v13 : BitVec 32) (k0_hw1 : k0_chk1 v13), ∀ a, (k0_off4 v13) a + S4x1x256x256.size a ≤ S4x2x256x1152.size a := fun v13 k0_hw1 => k0_hw1.2

def k0_off5 (i : grid0.Coords) : Fin 2 → Nat :=
  let c0_29 : Index := 0#32
  let arg0 : BitVec 32 := BitVec.ofNat 32 (i 0).val
  let c4_i32_21 : BitVec 32 := 4#32
  let v41 : BitVec 32 := Scalar.muli arg0 c4_i32_21
  let c1_i32 : BitVec 32 := 1#32
  let v42 : BitVec 32 := Scalar.addi v41 c1_i32
  let v49 : Index := Scalar.indexCast v42
  ![0, v49.toNat]
def k0_off6 (i : grid0.Coords) : Fin 2 → Nat :=
  let c1_31 : Index := 1#32
  let arg0 : BitVec 32 := BitVec.ofNat 32 (i 0).val
  let c4_i32_21 : BitVec 32 := 4#32
  let v41 : BitVec 32 := Scalar.muli arg0 c4_i32_21
  let c1_i32 : BitVec 32 := 1#32
  let v42 : BitVec 32 := Scalar.addi v41 c1_i32
  let v52 : Index := Scalar.indexCast v42
  ![1, v52.toNat]
def k0_off7 (v50 : BitVec 32) : Fin 4 → Nat :=
  let c0_32 : Index := 0#32
  let c0_33 : Index := 0#32
  let c0_34 : Index := 0#32
  let c128_i32_30 : BitVec 32 := 128#32
  let v51 : BitVec 32 := Scalar.muli v50 c128_i32_30
  let v60 : Index := Scalar.indexCast v51
  ![0, 0, 0, v60.toNat]

def k0_off8 (v50 : BitVec 32) : Fin 4 → Nat :=
  let c0_38 : Index := 0#32
  let c1_39 : Index := 1#32
  let c0_40 : Index := 0#32
  let c128_i32_30 : BitVec 32 := 128#32
  let v51 : BitVec 32 := Scalar.muli v50 c128_i32_30
  let v69 : Index := Scalar.indexCast v51
  ![0, 1, 0, v69.toNat]

def k0_chk2 (v50 : BitVec 32) : Prop :=
  (∀ a, (k0_off7 v50) a + S4x1x256x256.size a ≤ S4x2x256x1152.size a) ∧
  (∀ a, (k0_off8 v50) a + S4x1x256x256.size a ≤ S4x2x256x1152.size a)
theorem k0_off7_inb : ∀ (v50 : BitVec 32) (k0_hw2 : k0_chk2 v50), ∀ a, (k0_off7 v50) a + S4x1x256x256.size a ≤ S4x2x256x1152.size a := fun v50 k0_hw2 => k0_hw2.1
theorem k0_off8_inb : ∀ (v50 : BitVec 32) (k0_hw2 : k0_chk2 v50), ∀ a, (k0_off8 v50) a + S4x1x256x256.size a ≤ S4x2x256x1152.size a := fun v50 k0_hw2 => k0_hw2.2

def k0_off9 (i : grid0.Coords) : Fin 2 → Nat :=
  let c0_51 : Index := 0#32
  let arg0 : BitVec 32 := BitVec.ofNat 32 (i 0).val
  let c4_i32_44 : BitVec 32 := 4#32
  let v78 : BitVec 32 := Scalar.muli arg0 c4_i32_44
  let c2_i32 : BitVec 32 := 2#32
  let v79 : BitVec 32 := Scalar.addi v78 c2_i32
  let v86 : Index := Scalar.indexCast v79
  ![0, v86.toNat]
def k0_off10 (i : grid0.Coords) : Fin 2 → Nat :=
  let c1_53 : Index := 1#32
  let arg0 : BitVec 32 := BitVec.ofNat 32 (i 0).val
  let c4_i32_44 : BitVec 32 := 4#32
  let v78 : BitVec 32 := Scalar.muli arg0 c4_i32_44
  let c2_i32 : BitVec 32 := 2#32
  let v79 : BitVec 32 := Scalar.addi v78 c2_i32
  let v89 : Index := Scalar.indexCast v79
  ![1, v89.toNat]
def k0_off11 (v87 : BitVec 32) : Fin 4 → Nat :=
  let c0_54 : Index := 0#32
  let c0_55 : Index := 0#32
  let c0_56 : Index := 0#32
  let c128_i32_52 : BitVec 32 := 128#32
  let v88 : BitVec 32 := Scalar.muli v87 c128_i32_52
  let v97 : Index := Scalar.indexCast v88
  ![0, 0, 0, v97.toNat]

def k0_off12 (v87 : BitVec 32) : Fin 4 → Nat :=
  let c0_60 : Index := 0#32
  let c1_61 : Index := 1#32
  let c0_62 : Index := 0#32
  let c128_i32_52 : BitVec 32 := 128#32
  let v88 : BitVec 32 := Scalar.muli v87 c128_i32_52
  let v106 : Index := Scalar.indexCast v88
  ![0, 1, 0, v106.toNat]

def k0_chk3 (v87 : BitVec 32) : Prop :=
  (∀ a, (k0_off11 v87) a + S4x1x256x256.size a ≤ S4x2x256x1152.size a) ∧
  (∀ a, (k0_off12 v87) a + S4x1x256x256.size a ≤ S4x2x256x1152.size a)
theorem k0_off11_inb : ∀ (v87 : BitVec 32) (k0_hw3 : k0_chk3 v87), ∀ a, (k0_off11 v87) a + S4x1x256x256.size a ≤ S4x2x256x1152.size a := fun v87 k0_hw3 => k0_hw3.1
theorem k0_off12_inb : ∀ (v87 : BitVec 32) (k0_hw3 : k0_chk3 v87), ∀ a, (k0_off12 v87) a + S4x1x256x256.size a ≤ S4x2x256x1152.size a := fun v87 k0_hw3 => k0_hw3.2

def k0_off13 (i : grid0.Coords) : Fin 2 → Nat :=
  let c0_73 : Index := 0#32
  let arg0 : BitVec 32 := BitVec.ofNat 32 (i 0).val
  let c4_i32_66 : BitVec 32 := 4#32
  let v115 : BitVec 32 := Scalar.muli arg0 c4_i32_66
  let c3_i32 : BitVec 32 := 3#32
  let v116 : BitVec 32 := Scalar.addi v115 c3_i32
  let v123 : Index := Scalar.indexCast v116
  ![0, v123.toNat]
def k0_off14 (i : grid0.Coords) : Fin 2 → Nat :=
  let c1_75 : Index := 1#32
  let arg0 : BitVec 32 := BitVec.ofNat 32 (i 0).val
  let c4_i32_66 : BitVec 32 := 4#32
  let v115 : BitVec 32 := Scalar.muli arg0 c4_i32_66
  let c3_i32 : BitVec 32 := 3#32
  let v116 : BitVec 32 := Scalar.addi v115 c3_i32
  let v126 : Index := Scalar.indexCast v116
  ![1, v126.toNat]
def k0_off15 (v124 : BitVec 32) : Fin 4 → Nat :=
  let c0_76 : Index := 0#32
  let c0_77 : Index := 0#32
  let c0_78 : Index := 0#32
  let c128_i32_74 : BitVec 32 := 128#32
  let v125 : BitVec 32 := Scalar.muli v124 c128_i32_74
  let v134 : Index := Scalar.indexCast v125
  ![0, 0, 0, v134.toNat]

def k0_off16 (v124 : BitVec 32) : Fin 4 → Nat :=
  let c0_82 : Index := 0#32
  let c1_83 : Index := 1#32
  let c0_84 : Index := 0#32
  let c128_i32_74 : BitVec 32 := 128#32
  let v125 : BitVec 32 := Scalar.muli v124 c128_i32_74
  let v143 : Index := Scalar.indexCast v125
  ![0, 1, 0, v143.toNat]

def k0_chk4 (v124 : BitVec 32) : Prop :=
  (∀ a, (k0_off15 v124) a + S4x1x256x256.size a ≤ S4x2x256x1152.size a) ∧
  (∀ a, (k0_off16 v124) a + S4x1x256x256.size a ≤ S4x2x256x1152.size a)
theorem k0_off15_inb : ∀ (v124 : BitVec 32) (k0_hw4 : k0_chk4 v124), ∀ a, (k0_off15 v124) a + S4x1x256x256.size a ≤ S4x2x256x1152.size a := fun v124 k0_hw4 => k0_hw4.1
theorem k0_off16_inb : ∀ (v124 : BitVec 32) (k0_hw4 : k0_chk4 v124), ∀ a, (k0_off16 v124) a + S4x1x256x256.size a ≤ S4x2x256x1152.size a := fun v124 k0_hw4 => k0_hw4.2

def k0_cond2 (i : grid0.Coords) : BitVec 1 :=
  let arg0 : BitVec 32 := BitVec.ofNat 32 (i 0).val
  let c15_i32 : BitVec 32 := 15#32
  let v152 : BitVec 1 := Scalar.cmpi .eq arg0 c15_i32
  let v153 : BitVec 32 := Scalar.extui v152
  let c0_i32_88 : BitVec 32 := 0#32
  let v154 : BitVec 1 := Scalar.cmpi .ne v153 c0_i32_88
  v154

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x250 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1088 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2x256x1088 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4x128x256x64 : Shape := ⟨4, ![4, 128, 256, 64]⟩
abbrev S64x128x2x125 : Shape := ⟨4, ![64, 128, 2, 125]⟩
abbrev S64x2x125 : Shape := ⟨3, ![64, 2, 125]⟩
abbrev S64x125 : Shape := ⟨2, ![64, 125]⟩
abbrev S1025 : Shape := ⟨1, ![1025]⟩
abbrev S64x2x125x4x256 : Shape := ⟨5, ![64, 2, 125, 4, 256]⟩
abbrev S4x256x64x2x125 : Shape := ⟨5, ![4, 256, 64, 2, 125]⟩
abbrev S1x1x64x2x125 : Shape := ⟨5, ![1, 1, 64, 2, 125]⟩
abbrev S1x1x64x1x125 : Shape := ⟨5, ![1, 1, 64, 1, 125]⟩
abbrev S4x2x256x64x125 : Shape := ⟨5, ![4, 2, 256, 64, 125]⟩
abbrev S4x2x256x8000 : Shape := ⟨4, ![4, 2, 256, 8000]⟩
abbrev S8000 : Shape := ⟨1, ![8000]⟩
abbrev S_ : Shape := ⟨0, ![]⟩
abbrev S4x2x256x1025 : Shape := ⟨4, ![4, 2, 256, 1025]⟩
abbrev S8000x1 : Shape := ⟨2, ![8000, 1]⟩
abbrev S1x1x1x1025 : Shape := ⟨4, ![1, 1, 1, 1025]⟩

abbrev nBuf : Space → Nat
  | .hbm => 31
  | .vmem => 0
  | .smem => 0
  | _ => 0

abbrev bufTy : (tb : Table) → Fin (tcTables nBuf tb) → BufTy
  | .hbm, ⟨0, _⟩ => ⟨S4x128x256x64, .f32⟩
  | .hbm, ⟨1, _⟩ => ⟨S64x128x2x125, .f32⟩
  | .hbm, ⟨2, _⟩ => ⟨S64x2x125, .f32⟩
  | .hbm, ⟨3, _⟩ => ⟨S64x125, .f32⟩
  | .hbm, ⟨4, _⟩ => ⟨S1025, .f32⟩
  | .hbm, ⟨5, _⟩ => ⟨S64x125, .i32⟩
  | .hbm, ⟨6, _⟩ => ⟨S64x2x125x4x256, .f32⟩
  | .hbm, ⟨7, _⟩ => ⟨S4x256x64x2x125, .f32⟩
  | .hbm, ⟨8, _⟩ => ⟨S1x1x64x2x125, .f32⟩
  | .hbm, ⟨9, _⟩ => ⟨S4x256x64x2x125, .f32⟩
  | .hbm, ⟨10, _⟩ => ⟨S4x256x64x2x125, .f32⟩
  | .hbm, ⟨11, _⟩ => ⟨S1x1x64x1x125, .f32⟩
  | .hbm, ⟨12, _⟩ => ⟨S4x256x64x2x125, .f32⟩
  | .hbm, ⟨13, _⟩ => ⟨S4x256x64x2x125, .f32⟩
  | .hbm, ⟨14, _⟩ => ⟨S4x2x256x64x125, .f32⟩
  | .hbm, ⟨15, _⟩ => ⟨S4x2x256x8000, .f32⟩
  | .hbm, ⟨16, _⟩ => ⟨S8000, .i32⟩
  | .hbm, ⟨17, _⟩ => ⟨S_, .f32⟩
  | .hbm, ⟨18, _⟩ => ⟨S4x2x256x1025, .f32⟩
  | .hbm, ⟨19, _⟩ => ⟨S_, .i32⟩
  | .hbm, ⟨20, _⟩ => ⟨S8000, .i32⟩
  | .hbm, ⟨21, _⟩ => ⟨S8000, .i1⟩
  | .hbm, ⟨22, _⟩ => ⟨S_, .i32⟩
  | .hbm, ⟨23, _⟩ => ⟨S8000, .i32⟩
  | .hbm, ⟨24, _⟩ => ⟨S8000, .i32⟩
  | .hbm, ⟨25, _⟩ => ⟨S8000, .i32⟩
  | .hbm, ⟨26, _⟩ => ⟨S8000x1, .i32⟩
  | .hbm, ⟨27, _⟩ => ⟨S4x2x256x1025, .f32⟩
  | .hbm, ⟨28, _⟩ => ⟨S1x1x1x1025, .f32⟩
  | .hbm, ⟨29, _⟩ => ⟨S4x2x256x1025, .f32⟩
  | .hbm, ⟨30, _⟩ => ⟨S4x2x256x1025, .f32⟩
  | _, _ => ⟨S4x128x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.Band.Setup.lean ====
/- The launch set-up of the kernel's program: its one host line before the pallas_call, the host slice after it,
   the memory the region finds, the staging memrefs, and where the body's two `scf.if`s are taken. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffix
public import Idealize.ShloMosaic.Lib.StableHlo.RunRead
public import Idealize.ShloMosaic.Lib.Ring
public import Idealize.ShloMosaic.Lib.Tactic
public import Idealize.ShloMosaic.Lib.WordCmp

@[expose] public section

set_option maxRecDepth 16384

noncomputable section

namespace Cert.KernelIdeal.Band

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The host lines around the region -/

/-- What core `c`'s buffers hold when the region is entered. -/
abbrev V0 (c : Dev nD) : Valuation τ sig (Elt F) := StableHlo.after (List.flatten [hostOps0]) (fun b => m (c, b))
/-- The same, at a TensorCore reference. -/
abbrev V (c : Dev nD) (b : Ref sig .tc) : Buf (Elt F) ((c : Thread nD τ).loc b) := V0 m c (Proc.devRef .tc b)

theorem pre_fresh : (hostOps0 : List (HloOp τ sig (Elt F))).Forall fun op => op.fresh = ∅ := by
  simp only [List.Forall]; repeat' constructor

set_option maxHeartbeats 800000 in
/-- @main is the host line, the region, then the host slice. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact pre_fresh) main_chain

/-- Every operation after the region is the one slice. -/
theorem tail_op {ops : List (HloOp τ sig (Elt F))} (h : ops ∈ ([hostOps1] : List (List (HloOp τ sig (Elt F)))))
    {op : HloOp τ sig (Elt F)} (hop : op ∈ ops) : op ∈ (hostOps1 : List (HloOp τ sig (Elt F))) := by
  rw [List.mem_singleton] at h; exact h ▸ hop

theorem tail_sub : ∀ ops ∈ ([hostOps1] : List (List (HloOp τ sig (Elt F)))), ∀ op ∈ ops,
    op.bufs ⊆ Pipeline.tailRefs sig pre0 spec0 := by
  intro ops hops op hop
  have hop := tail_op hops hop
  refine Pipeline.sub_tailRefs pre0 spec0 op ((List.forall_iff_forall_mem.mp hostOps1_sub) op hop) ?_
  rw [List.mem_singleton] at hop
  subst hop
  intro j; fin_cases j
  simp only [StableHlo.unary_bufs, Finset.mem_insert, Finset.mem_singleton, not_or]
  and_intros <;> exact StableHlo.devRef_ne_of_ne (by decide)

theorem tail_fresh : ∀ ops ∈ ([hostOps1] : List (List (HloOp τ sig (Elt F)))), ∀ op ∈ ops, op.fresh = ∅ := by
  intro ops hops op hop
  have hop := tail_op hops hop
  rw [List.mem_singleton] at hop
  subst hop; rfl

theorem tail_keeps : ∀ ops ∈ ([hostOps1] : List (List (HloOp τ sig (Elt F)))), ∀ op ∈ ops,
    ∀ w, Proc.devRef .tc (Pipeline.arrRef spec0 w) ∉ op.writes := by
  intro ops hops op hop
  have hop := tail_op hops hop
  rw [List.mem_singleton] at hop
  subst hop
  intro w
  fin_cases w <;> simp only [StableHlo.unary_writes, Finset.mem_singleton] <;> exact StableHlo.devRef_ne_of_ne (by decide)

/-- The references the host line before the region writes. -/
abbrev preWrites : List (Ref sig .tc) :=
  [main_call0_c, main_call0_v0, main_call0_v1, main_call0_v2, main_call0_v3, main_call0_v4, main_call0_v5, main_call0_v6,
   main_call0_cst, main_call0_call0_v0, main_call0_v7, main_call0_v8]

/-- A buffer the host line does not write reaches the region as launched. -/
theorem V_keep (c : Dev nD) (b : Ref sig .tc) (hb : b ∉ preWrites) : V m c b = m ((c : Thread nD τ).loc b) :=
  StableHlo.after_unwritten preWrites rfl hb _

/-! ## The prefetched table -/

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The table is the literal the program names: the band's aligned window in row 0, its rotation in row 1. -/
theorem tbl_eq : tbl m 0 = fun i => lit0 (S2x64.rowMajor i) := by
  show StableHlo.after (List.flatten [hostOps0]) _ (Proc.devRef .tc main_call0_c) = _
  rw [StableHlo.after_last_write (ops := List.flatten [hostOps0]) (i := 0) (W := preWrites.tail) rfl rfl (by decide)]
  exact StableHlo.nullary_result ..

abbrev adm : (pcfg0 (F := F)).Adm := ⟨tbl m, trivial⟩
abbrev cfgM : Pipeline.Cfg sig Λ₀ := cfg0 (adm m)

abbrev tbM : Memref sig .tc .smem S2x64 .i32 := Memref.whole main_call0_c
abbrev htbM : tbM.IsWhole := Memref.isWhole_whole _

/-- The contents of a table's buffer, and that buffer held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The windows -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The two conditions of the body, in the grid's coordinates: `k = 0` and `k = 15`. -/
abbrev isFirst (i : grid0.Coords) : Prop := (Scalar.cmpi .ne (Scalar.extui (Scalar.cmpi .eq (BitVec.ofNat 32 (i 0).val) 0#32)) 0#32) = 1#1
abbrev isLast (i : grid0.Coords) : Prop := k0_cond2 i = 1#1

theorem isFirst_iff (t : Fin grid0.N) : isFirst (grid0.coords t) ↔ t.val = 0 := by
  have ht : t.val < 16 := Nat.lt_of_lt_of_eq t.isLt N_0
  have e0 : (grid0.coords t 0).val = t.val / 1 % 16 := Pipeline.Grid.coords_val t 0 (by decide) rfl
  have h : isFirst (grid0.coords t) ↔ t.val % 16 = 0 := by
    simp only [isFirst, e0]
    word_cmp
  rw [h]; omega

theorem isLast_iff (t : Fin grid0.N) : isLast (grid0.coords t) ↔ t.val = 15 := by
  have ht : t.val < 16 := Nat.lt_of_lt_of_eq t.isLt N_0
  have e0 : (grid0.coords t 0).val = t.val / 1 % 16 := Pipeline.Grid.coords_val t 0 (by decide) rfl
  have h : isLast (grid0.coords t) ↔ t.val % 16 = 15 := by
    simp only [isLast, k0_cond2, e0]
    word_cmp
  rw [h]; omega

/-- The output window is written back at the last point only. -/
theorem flush_iff (t : Fin (cfgM m).N) : ((cfgM m).win 3).flush t = true ↔ t.val = 15 := by
  have ht : t.val < 16 := Nat.lt_of_lt_of_eq t.isLt N_0
  have h := (fun t => Pipeline.Window.flushOf_const cc0_transform_3 (fun _ _ => rfl) (n := 16) (by decide) rfl t : ∀ t : Fin grid0.N, Pipeline.Window.flushOf grid0 true cc0_transform_3 t = true ↔ t.val % 16 = 15) t
  have h' : ((cfgM m).win 3).flush t = true ↔ t.val % 16 = 15 := h
  rw [h']; omega

/-- Each window's current staging memref at point `t`, and its wholeness. -/
abbrev ms0 (t : Fin (cfgM m).N) : Memref sig .tc .vmem S4x1024x128 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S4x128x250 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1088 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S4x2x256x1088 .f32 := spec0_3.stage ((cfgM m).slots t 3)
abbrev hs3 (t : Fin (cfgM m).N) : (ms3 m t).IsWhole := hstage0_3 (((cfgM m).slots t 3).cast nbuf0_3)
/-- The accumulator: a scratch buffer kept from one point to the next. -/
abbrev accM : Memref sig .tc .vmem S4x2x256x1152 .f32 := Memref.whole cc0_scratch0
abbrev haccM : accM.IsWhole := Memref.isWhole_whole _

theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-- The body at point `t`, on the memrefs the pipeline calls it with. -/
abbrev bodyAt (t : Fin (cfgM m).N) : Prog (TpuEff nD τ sig (Elt F) Λ₀ .tc) PUnit :=
  cc0__band_kernel (grid0.coords t) tbM htbM (ms0 m t) (hs0 m t) (ms1 m t) (hs1 m t) (ms2 m t) (hs2 m t) (ms3 m t) (hs3 m t) accM haccM

theorem defs_row (t : Fin (cfgM m).N) :
    defs₀ (F := F) .tc (cfgM m).body ((cfgM m).bodyArgs t ((cfgM m).slots t)) = bodyAt m t := by
  unfold defs₀; rw [Defs.onTc_tc]

end Cert.KernelIdeal.Band

end
-- ==== Proof.Band.RunB.lean ====
module

public import proofs.«01_k».proof.Proof.Band.Setup

/-!
The body at a point that is neither the first nor the last: four bands are added into the accumulator.
-/

@[expose] public section

set_option maxRecDepth 16384

noncomputable section

namespace Cert.KernelIdeal.Band

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The four words of the table's first row that a point reads: which aligned window each of its bands is added into. -/
abbrev word1 (c : Dev nD) (i : grid0.Coords) (xt : TbBuf (F := F) c tbM) : Elt F .i32 :=
  View.readAt (Elt F) tbM.view (Rect.unit (s := S2x64) (k0_off1 i) S1x1.size (k0_off1_inb i)).toLoadRect xt (Shape.Idx.first (show 0 < S1x1.numel by decide))
abbrev word2 (c : Dev nD) (i : grid0.Coords) (xt : TbBuf (F := F) c tbM) : Elt F .i32 :=
  View.readAt (Elt F) tbM.view (Rect.unit (s := S2x64) (k0_off5 i) S1x1.size (k0_off5_inb i)).toLoadRect xt (Shape.Idx.first (show 0 < S1x1.numel by decide))
abbrev word3 (c : Dev nD) (i : grid0.Coords) (xt : TbBuf (F := F) c tbM) : Elt F .i32 :=
  View.readAt (Elt F) tbM.view (Rect.unit (s := S2x64) (k0_off9 i) S1x1.size (k0_off9_inb i)).toLoadRect xt (Shape.Idx.first (show 0 < S1x1.numel by decide))
abbrev word4 (c : Dev nD) (i : grid0.Coords) (xt : TbBuf (F := F) c tbM) : Elt F .i32 :=
  View.readAt (Elt F) tbM.view (Rect.unit (s := S2x64) (k0_off13 i) S1x1.size (k0_off13_inb i)).toLoadRect xt (Shape.Idx.first (show 0 < S1x1.numel by decide))

set_option maxHeartbeats 1000000 in
/-- The pieces the body stores into the accumulator at a middle point (last first), with the proof that the body runs to a continuation holding the inputs and the output staging memref as found and the accumulator with those pieces written. -/
def runB (c : Dev nD) (i : grid0.Coords) (arg2 : Memref sig .tc .vmem S4x1024x128 .f32) (harg2 : arg2.IsWhole) (arg3 : Memref sig .tc .vmem S4x128x250 .bf16) (harg3 : arg3.IsWhole) (arg4 : Memref sig .tc .vmem S1x1088 .f32) (harg4 : arg4.IsWhole) (arg5 : Memref sig .tc .vmem S4x2x256x1088 .f32) (harg5 : arg5.IsWhole) (arg6 : Memref sig .tc .vmem S4x2x256x1152 .f32) (harg6 : arg6.IsWhole) (hc0 : ¬isFirst i) (hc1 : ¬isLast i)
    (x0 : Vec F S4x1024x128 .f32) (x1 : Vec F S4x128x250 .bf16) (x2 : Vec F S1x1088 .f32) (xt0 : TbBuf (F := F) c tbM) (xs0 : Vec F S4x2x256x1152 .f32) (h1 : ∀ v, v = word1 c i xt0 → k0_chk1 v) (h2 : ∀ v, v = word2 c i xt0 → k0_chk2 v) (h3 : ∀ v, v = word3 c i xt0 → k0_chk3 v) (h4 : ∀ v, v = word4 c i xt0 → k0_chk4 v) :
    { L : List (View.Piece (Elt F) S4x2x256x1152 .f32) //
      ∀ (d5 : Vec F S4x2x256x1088 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d5 ∗ owns (c : Thread nD τ) arg6 fullShare xs0 ∗ tbPt c tbM xt0
            ∗ (iprop(owns (c : Thread nD τ) arg2 fullShare x0 ∗ owns (c : Thread nD τ) arg3 fullShare x1 ∗ owns (c : Thread nD τ) arg4 fullShare x2 ∗ owns (c : Thread nD τ) arg5 fullShare d5 ∗ (arg6.view.loc (c : Thread nD τ) ↦[arg6.view.set]{fullShare} arg6.view.writes (Elt F) (harg6.unread xs0) L) ∗ tbPt c tbM xt0) -∗ K ⟨⟩))
          ⊢ wp frame (wpE (defs₀ (F := F)) Variants.none c none) E (cc0__band_kernel i tbM htbM arg2 harg2 arg3 harg3 arg4 harg4 arg5 harg5 arg6 harg6) K } := by
  refine ⟨?_, fun d5 E K => ?run⟩
  case run =>
    simp only [cc0__band_kernel_eq_skeleton]; unfold cc0__band_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%fs0, %hfs0, HS0⟩, HT0, Hk⟩
    obtain rfl := harg2.eq_unread hf0; obtain rfl := harg3.eq_unread hf1; obtain rfl := harg4.eq_unread hf2; obtain rfl := harg6.eq_unread hfs0
    sl_exec (disch := first | sl_exact hc0 | sl_exact hc1 | ((with_reducible refine h1 _ ?_); exact rfl) | ((with_reducible refine h2 _ ?_); exact rfl) | ((with_reducible refine h3 _ ?_); exact rfl) | ((with_reducible refine h4 _ ?_); exact rfl))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; exact hf3
    isplitl [HS0]; · iexact HS0
    iexact HT0

end Cert.KernelIdeal.Band

end
-- ==== Proof.Band.RunA.lean ====
module

public import proofs.«01_k».proof.Proof.Band.RunB

/-!
The body at the first point: the accumulator is zeroed, then four bands are added into it.
-/

@[expose] public section

set_option maxRecDepth 16384

noncomputable section

namespace Cert.KernelIdeal.Band

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The pieces the body stores into the accumulator at the first point (last first), whatever it held before, with the proof that the body runs to a continuation holding the rest as found. -/
def runA (c : Dev nD) (i : grid0.Coords) (arg2 : Memref sig .tc .vmem S4x1024x128 .f32) (harg2 : arg2.IsWhole) (arg3 : Memref sig .tc .vmem S4x128x250 .bf16) (harg3 : arg3.IsWhole) (arg4 : Memref sig .tc .vmem S1x1088 .f32) (harg4 : arg4.IsWhole) (arg5 : Memref sig .tc .vmem S4x2x256x1088 .f32) (harg5 : arg5.IsWhole) (arg6 : Memref sig .tc .vmem S4x2x256x1152 .f32) (harg6 : arg6.IsWhole) (hc0 : isFirst i) (hc1 : ¬isLast i)
    (x0 : Vec F S4x1024x128 .f32) (x1 : Vec F S4x128x250 .bf16) (x2 : Vec F S1x1088 .f32) (xt0 : TbBuf (F := F) c tbM) (h1 : ∀ v, v = word1 c i xt0 → k0_chk1 v) (h2 : ∀ v, v = word2 c i xt0 → k0_chk2 v) (h3 : ∀ v, v = word3 c i xt0 → k0_chk3 v) (h4 : ∀ v, v = word4 c i xt0 → k0_chk4 v) :
    { L : List (View.Piece (Elt F) S4x2x256x1152 .f32) //
      ∀ (d5 : Vec F S4x2x256x1088 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d5 ∗ (∃ d, owns (c : Thread nD τ) arg6 fullShare d) ∗ tbPt c tbM xt0
            ∗ (iprop(owns (c : Thread nD τ) arg2 fullShare x0 ∗ owns (c : Thread nD τ) arg3 fullShare x1 ∗ owns (c : Thread nD τ) arg4 fullShare x2 ∗ owns (c : Thread nD τ) arg5 fullShare d5 ∗ (∃ f, arg6.view.loc (c : Thread nD τ) ↦[arg6.view.set]{fullShare} arg6.view.writes (Elt F) f L) ∗ tbPt c tbM xt0) -∗ K ⟨⟩))
          ⊢ wp frame (wpE (defs₀ (F := F)) Variants.none c none) E (cc0__band_kernel i tbM htbM arg2 harg2 arg3 harg3 arg4 harg4 arg5 harg5 arg6 harg6) K } := by
  refine ⟨?_, fun d5 E K => ?run⟩
  case run =>
    simp only [cc0__band_kernel_eq_skeleton]; unfold cc0__band_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%ds0, %fs0, -, HS0⟩, HT0, Hk⟩
    obtain rfl := harg2.eq_unread hf0; obtain rfl := harg3.eq_unread hf1; obtain rfl := harg4.eq_unread hf2
    sl_exec (disch := first | sl_exact hc0 | sl_exact hc1 | ((with_reducible refine h1 _ ?_); exact rfl) | ((with_reducible refine h2 _ ?_); exact rfl) | ((with_reducible refine h3 _ ?_); exact rfl) | ((with_reducible refine h4 _ ?_); exact rfl))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; exact hf3
    isplitl [HS0]; · iexists _; iexact HS0
    iexact HT0

end Cert.KernelIdeal.Band

end
-- ==== Proof.Band.RunC.lean ====
module

public import proofs.«01_k».proof.Proof.Band.RunA

/-!
The body at the last point: four bands are added, and the accumulator, divided by the overlap, is stored into the output staging memref.
-/

@[expose] public section

set_option maxRecDepth 16384

noncomputable section

namespace Cert.KernelIdeal.Band

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The pieces the body stores at the last point, into the accumulator and into the output staging memref, with the proof that the body runs to a continuation holding the inputs as found and both buffers with their pieces written. -/
def runC (c : Dev nD) (i : grid0.Coords) (arg2 : Memref sig .tc .vmem S4x1024x128 .f32) (harg2 : arg2.IsWhole) (arg3 : Memref sig .tc .vmem S4x128x250 .bf16) (harg3 : arg3.IsWhole) (arg4 : Memref sig .tc .vmem S1x1088 .f32) (harg4 : arg4.IsWhole) (arg5 : Memref sig .tc .vmem S4x2x256x1088 .f32) (harg5 : arg5.IsWhole) (arg6 : Memref sig .tc .vmem S4x2x256x1152 .f32) (harg6 : arg6.IsWhole) (hc0 : ¬isFirst i) (hc1 : isLast i)
    (x0 : Vec F S4x1024x128 .f32) (x1 : Vec F S4x128x250 .bf16) (x2 : Vec F S1x1088 .f32) (xt0 : TbBuf (F := F) c tbM) (xs0 : Vec F S4x2x256x1152 .f32) (h1 : ∀ v, v = word1 c i xt0 → k0_chk1 v) (h2 : ∀ v, v = word2 c i xt0 → k0_chk2 v) (h3 : ∀ v, v = word3 c i xt0 → k0_chk3 v) (h4 : ∀ v, v = word4 c i xt0 → k0_chk4 v) :
    { L : List (View.Piece (Elt F) S4x2x256x1152 .f32) × List (View.Piece (Elt F) S4x2x256x1088 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ tbPt c tbM xt0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L.2) ∗ (arg6.view.loc (c : Thread nD τ) ↦[arg6.view.set]{fullShare} arg6.view.writes (Elt F) (harg6.unread xs0) L.1) ∗ tbPt c tbM xt0) -∗ K ⟨⟩))
          ⊢ wp frame (wpE (defs₀ (F := F)) Variants.none c none) E (cc0__band_kernel i tbM htbM arg2 harg2 arg3 harg3 arg4 harg4 arg5 harg5 arg6 harg6) K } := by
  refine ⟨⟨?_, ?_⟩, fun E K => ?run⟩
  case run =>
    simp only [cc0__band_kernel_eq_skeleton]; unfold cc0__band_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%fs0, %hfs0, HS0⟩, HT0, Hk⟩
    obtain rfl := harg2.eq_unread hf0; obtain rfl := harg3.eq_unread hf1; obtain rfl := harg4.eq_unread hf2; obtain rfl := harg6.eq_unread hfs0
    sl_exec (disch := first | sl_exact hc0 | sl_exact hc1 | ((with_reducible refine h1 _ ?_); exact rfl) | ((with_reducible refine h2 _ ?_); exact rfl) | ((with_reducible refine h3 _ ?_); exact rfl) | ((with_reducible refine h4 _ ?_); exact rfl))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]; · iexact HS0
    iexact HT0

end Cert.KernelIdeal.Band

end
-- ==== Proof.Band.Words.lean ====
module

public import proofs.«01_k».proof.Proof.Band.RunC

/-!
The words a point reads from the prefetched table are the entries of the literal the program names, and the windows they select lie
inside the accumulator.
-/

@[expose] public section

set_option maxRecDepth 16384

noncomputable section

namespace Cert.KernelIdeal.Band

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- A word read from the table through a one-by-one rectangle is the literal's entry at that row and column. -/
theorem tab_read (c : Dev nD) (off : Fin 2 → ℕ) (inb : ∀ a, off a + S1x1.size a ≤ S2x64.size a) (n : Fin 128) (hn : off 0 * 64 + off 1 = n.val) :
    View.readAt (Elt F) tbM.view (Rect.unit (s := S2x64) off S1x1.size inb).toLoadRect (show TbBuf (F := F) c tbM from tbl m 0)
      (Shape.Idx.first (show 0 < S1x1.numel by decide)) = lit0 n := by
  rw [tbl_eq m]
  show lit0 (S2x64.rowMajor _) = lit0 n
  congr 1
  apply Fin.ext
  rw [← hn]
  refine (Shape.rowMajor_val_two _).trans ?_
  show (off 0 + 0 * 1) * 64 + (off 1 + 0 * 1) = _
  omega

/-- The grid's one coordinate is below 16. -/
theorem coord_lt (i : grid0.Coords) : (i 0).val < 16 := (i 0).isLt

theorem word1_eq (c : Dev nD) (i : grid0.Coords) :
    word1 c i (tbl m 0) = lit0 ⟨0 + (4 * (i 0).val + 0), by have := coord_lt i; omega⟩ :=
  tab_read m c _ _ _ (by
    have h := coord_lt i
    show 0 * 64 + (BitVec.ofNat 32 (i 0).val * 4#32 + 0#32).toNat = 0 + (4 * (i 0).val + 0)
    simp only [BitVec.toNat_add, BitVec.toNat_mul, BitVec.toNat_ofNat]
    omega)
/-- The word of the table's second row that a point reads for its band 1: how far the band is rotated inside its window. -/
abbrev rot1 (c : Dev nD) (i : grid0.Coords) (xt : TbBuf (F := F) c tbM) : Elt F .i32 :=
  View.readAt (Elt F) tbM.view (Rect.unit (s := S2x64) (k0_off2 i) S1x1.size (k0_off2_inb i)).toLoadRect xt (Shape.Idx.first (show 0 < S1x1.numel by decide))
theorem rot1_eq (c : Dev nD) (i : grid0.Coords) :
    rot1 c i (tbl m 0) = lit0 ⟨64 + (4 * (i 0).val + 0), by have := coord_lt i; omega⟩ :=
  tab_read m c _ _ _ (by
    have h := coord_lt i
    show 1 * 64 + (BitVec.ofNat 32 (i 0).val * 4#32 + 0#32).toNat = 64 + (4 * (i 0).val + 0)
    simp only [BitVec.toNat_add, BitVec.toNat_mul, BitVec.toNat_ofNat]
    omega)
theorem word2_eq (c : Dev nD) (i : grid0.Coords) :
    word2 c i (tbl m 0) = lit0 ⟨0 + (4 * (i 0).val + 1), by have := coord_lt i; omega⟩ :=
  tab_read m c _ _ _ (by
    have h := coord_lt i
    show 0 * 64 + (BitVec.ofNat 32 (i 0).val * 4#32 + 1#32).toNat = 0 + (4 * (i 0).val + 1)
    simp only [BitVec.toNat_add, BitVec.toNat_mul, BitVec.toNat_ofNat]
    omega)
/-- The word of the table's second row that a point reads for its band 2: how far the band is rotated inside its window. -/
abbrev rot2 (c : Dev nD) (i : grid0.Coords) (xt : TbBuf (F := F) c tbM) : Elt F .i32 :=
  View.readAt (Elt F) tbM.view (Rect.unit (s := S2x64) (k0_off6 i) S1x1.size (k0_off6_inb i)).toLoadRect xt (Shape.Idx.first (show 0 < S1x1.numel by decide))
theorem rot2_eq (c : Dev nD) (i : grid0.Coords) :
    rot2 c i (tbl m 0) = lit0 ⟨64 + (4 * (i 0).val + 1), by have := coord_lt i; omega⟩ :=
  tab_read m c _ _ _ (by
    have h := coord_lt i
    show 1 * 64 + (BitVec.ofNat 32 (i 0).val * 4#32 + 1#32).toNat = 64 + (4 * (i 0).val + 1)
    simp only [BitVec.toNat_add, BitVec.toNat_mul, BitVec.toNat_ofNat]
    omega)
theorem word3_eq (c : Dev nD) (i : grid0.Coords) :
    word3 c i (tbl m 0) = lit0 ⟨0 + (4 * (i 0).val + 2), by have := coord_lt i; omega⟩ :=
  tab_read m c _ _ _ (by
    have h := coord_lt i
    show 0 * 64 + (BitVec.ofNat 32 (i 0).val * 4#32 + 2#32).toNat = 0 + (4 * (i 0).val + 2)
    simp only [BitVec.toNat_add, BitVec.toNat_mul, BitVec.toNat_ofNat]
    omega)
/-- The word of the table's second row that a point reads for its band 3: how far the band is rotated inside its window. -/
abbrev rot3 (c : Dev nD) (i : grid0.Coords) (xt : TbBuf (F := F) c tbM) : Elt F .i32 :=
  View.readAt (Elt F) tbM.view (Rect.unit (s := S2x64) (k0_off10 i) S1x1.size (k0_off10_inb i)).toLoadRect xt (Shape.Idx.first (show 0 < S1x1.numel by decide))
theorem rot3_eq (c : Dev nD) (i : grid0.Coords) :
    rot3 c i (tbl m 0) = lit0 ⟨64 + (4 * (i 0).val + 2), by have := coord_lt i; omega⟩ :=
  tab_read m c _ _ _ (by
    have h := coord_lt i
    show 1 * 64 + (BitVec.ofNat 32 (i 0).val * 4#32 + 2#32).toNat = 64 + (4 * (i 0).val + 2)
    simp only [BitVec.toNat_add, BitVec.toNat_mul, BitVec.toNat_ofNat]
    omega)
theorem word4_eq (c : Dev nD) (i : grid0.Coords) :
    word4 c i (tbl m 0) = lit0 ⟨0 + (4 * (i 0).val + 3), by have := coord_lt i; omega⟩ :=
  tab_read m c _ _ _ (by
    have h := coord_lt i
    show 0 * 64 + (BitVec.ofNat 32 (i 0).val * 4#32 + 3#32).toNat = 0 + (4 * (i 0).val + 3)
    simp only [BitVec.toNat_add, BitVec.toNat_mul, BitVec.toNat_ofNat]
    omega)
/-- The word of the table's second row that a point reads for its band 4: how far the band is rotated inside its window. -/
abbrev rot4 (c : Dev nD) (i : grid0.Coords) (xt : TbBuf (F := F) c tbM) : Elt F .i32 :=
  View.readAt (Elt F) tbM.view (Rect.unit (s := S2x64) (k0_off14 i) S1x1.size (k0_off14_inb i)).toLoadRect xt (Shape.Idx.first (show 0 < S1x1.numel by decide))
theorem rot4_eq (c : Dev nD) (i : grid0.Coords) :
    rot4 c i (tbl m 0) = lit0 ⟨64 + (4 * (i 0).val + 3), by have := coord_lt i; omega⟩ :=
  tab_read m c _ _ _ (by
    have h := coord_lt i
    show 1 * 64 + (BitVec.ofNat 32 (i 0).val * 4#32 + 3#32).toNat = 64 + (4 * (i 0).val + 3)
    simp only [BitVec.toNat_add, BitVec.toNat_mul, BitVec.toNat_ofNat]
    omega)

/-- Every window the table names lies inside the accumulator. -/
theorem lit_le : ∀ n : Fin 64, (lit0 ⟨n.val, by omega⟩).toNat ≤ 7 := by decide

theorem chk1_of_le (v : BitVec 32) (h : v.toNat ≤ 7) : k0_chk1 v := by
  have e : (v * 128#32).toNat = v.toNat * 128 := by rw [BitVec.toNat_mul]; simp only [BitVec.toNat_ofNat]; omega
  refine ⟨fun a => ?_, fun a => ?_⟩ <;> fin_cases a
  · show 0 + 4 ≤ 4; omega
  · show 0 + 1 ≤ 2; omega
  · show 0 + 256 ≤ 256; omega
  · show (v * 128#32).toNat + 256 ≤ 1152; omega
  · show 0 + 4 ≤ 4; omega
  · show 1 + 1 ≤ 2; omega
  · show 0 + 256 ≤ 256; omega
  · show (v * 128#32).toNat + 256 ≤ 1152; omega
theorem chk1 (c : Dev nD) (i : grid0.Coords) (v : BitVec 32) (hv : v = word1 c i (tbl m 0)) : k0_chk1 v := by
  subst hv
  have h := coord_lt i
  exact chk1_of_le _ (le_of_eq_of_le (congrArg BitVec.toNat (word1_eq m c i)) (by
    have := lit_le ⟨4 * (i 0).val + 0, by omega⟩
    simpa only [Nat.zero_add] using this))

theorem chk2_of_le (v : BitVec 32) (h : v.toNat ≤ 7) : k0_chk2 v := by
  have e : (v * 128#32).toNat = v.toNat * 128 := by rw [BitVec.toNat_mul]; simp only [BitVec.toNat_ofNat]; omega
  refine ⟨fun a => ?_, fun a => ?_⟩ <;> fin_cases a
  · show 0 + 4 ≤ 4; omega
  · show 0 + 1 ≤ 2; omega
  · show 0 + 256 ≤ 256; omega
  · show (v * 128#32).toNat + 256 ≤ 1152; omega
  · show 0 + 4 ≤ 4; omega
  · show 1 + 1 ≤ 2; omega
  · show 0 + 256 ≤ 256; omega
  · show (v * 128#32).toNat + 256 ≤ 1152; omega
theorem chk2 (c : Dev nD) (i : grid0.Coords) (v : BitVec 32) (hv : v = word2 c i (tbl m 0)) : k0_chk2 v := by
  subst hv
  have h := coord_lt i
  exact chk2_of_le _ (le_of_eq_of_le (congrArg BitVec.toNat (word2_eq m c i)) (by
    have := lit_le ⟨4 * (i 0).val + 1, by omega⟩
    simpa only [Nat.zero_add] using this))

theorem chk3_of_le (v : BitVec 32) (h : v.toNat ≤ 7) : k0_chk3 v := by
  have e : (v * 128#32).toNat = v.toNat * 128 := by rw [BitVec.toNat_mul]; simp only [BitVec.toNat_ofNat]; omega
  refine ⟨fun a => ?_, fun a => ?_⟩ <;> fin_cases a
  · show 0 + 4 ≤ 4; omega
  · show 0 + 1 ≤ 2; omega
  · show 0 + 256 ≤ 256; omega
  · show (v * 128#32).toNat + 256 ≤ 1152; omega
  · show 0 + 4 ≤ 4; omega
  · show 1 + 1 ≤ 2; omega
  · show 0 + 256 ≤ 256; omega
  · show (v * 128#32).toNat + 256 ≤ 1152; omega
theorem chk3 (c : Dev nD) (i : grid0.Coords) (v : BitVec 32) (hv : v = word3 c i (tbl m 0)) : k0_chk3 v := by
  subst hv
  have h := coord_lt i
  exact chk3_of_le _ (le_of_eq_of_le (congrArg BitVec.toNat (word3_eq m c i)) (by
    have := lit_le ⟨4 * (i 0).val + 2, by omega⟩
    simpa only [Nat.zero_add] using this))

theorem chk4_of_le (v : BitVec 32) (h : v.toNat ≤ 7) : k0_chk4 v := by
  have e : (v * 128#32).toNat = v.toNat * 128 := by rw [BitVec.toNat_mul]; simp only [BitVec.toNat_ofNat]; omega
  refine ⟨fun a => ?_, fun a => ?_⟩ <;> fin_cases a
  · show 0 + 4 ≤ 4; omega
  · show 0 + 1 ≤ 2; omega
  · show 0 + 256 ≤ 256; omega
  · show (v * 128#32).toNat + 256 ≤ 1152; omega
  · show 0 + 4 ≤ 4; omega
  · show 1 + 1 ≤ 2; omega
  · show 0 + 256 ≤ 256; omega
  · show (v * 128#32).toNat + 256 ≤ 1152; omega
theorem chk4 (c : Dev nD) (i : grid0.Coords) (v : BitVec 32) (hv : v = word4 c i (tbl m 0)) : k0_chk4 v := by
  subst hv
  have h := coord_lt i
  exact chk4_of_le _ (le_of_eq_of_le (congrArg BitVec.toNat (word4_eq m c i)) (by
    have := lit_le ⟨4 * (i 0).val + 3, by omega⟩
    simpa only [Nat.zero_add] using this))

end Cert.KernelIdeal.Band

end
-- ==== Proof.Band.Frame.lean ====
module

public import proofs.«01_k».proof.Proof.Band.Words
public import Idealize.ShloMosaic.Lib.Claim

/-!
What each grid point leaves in the accumulator and in the output block, the body obligation at every point, and the run of the
whole program.
-/

@[expose] public section

set_option maxRecDepth 16384

noncomputable section

namespace Cert.KernelIdeal.Band

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_eq : (cfgM m).N = 16 := N_0
theorem lt16 (t : Fin (cfgM m).N) : t.val < 16 := lt_of_lt_of_eq t.isLt (N_eq m)

/-! ## The runs at a point's own memrefs and blocks -/

abbrev pRunA (c : Dev nD) (t : Fin (cfgM m).N) (h0 : t.val = 0) :=
  runA (F := F) c (grid0.coords t) (ms0 m t) (hs0 m t) (ms1 m t) (hs1 m t) (ms2 m t) (hs2 m t) (ms3 m t) (hs3 m t) accM haccM ((isFirst_iff t).mpr h0) (fun h => by have := (isLast_iff t).mp h; omega) (iblk m c 0 t) (iblk m c 1 t) (iblk m c 2 t) (tbl m 0) (chk1 m c _) (chk2 m c _) (chk3 m c _) (chk4 m c _)
abbrev pRunB (c : Dev nD) (t : Fin (cfgM m).N) (h0 : t.val ≠ 0) (h1 : t.val ≠ 15) (xs : Vec F S4x2x256x1152 .f32) :=
  runB (F := F) c (grid0.coords t) (ms0 m t) (hs0 m t) (ms1 m t) (hs1 m t) (ms2 m t) (hs2 m t) (ms3 m t) (hs3 m t) accM haccM (fun h => h0 ((isFirst_iff t).mp h)) (fun h => h1 ((isLast_iff t).mp h)) (iblk m c 0 t) (iblk m c 1 t) (iblk m c 2 t) (tbl m 0) xs (chk1 m c _) (chk2 m c _) (chk3 m c _) (chk4 m c _)
abbrev pRunC (c : Dev nD) (t : Fin (cfgM m).N) (h1 : t.val = 15) (xs : Vec F S4x2x256x1152 .f32) :=
  runC (F := F) c (grid0.coords t) (ms0 m t) (hs0 m t) (ms1 m t) (hs1 m t) (ms2 m t) (hs2 m t) (ms3 m t) (hs3 m t) accM haccM (fun h => by have := (isFirst_iff t).mp h; omega) ((isLast_iff t).mpr h1) (iblk m c 0 t) (iblk m c 1 t) (iblk m c 2 t) (tbl m 0) xs (chk1 m c _) (chk2 m c _) (chk3 m c _) (chk4 m c _)

/-- The first point stores the whole accumulator, so what it leaves there does not depend on what it found. -/
theorem coverA (c : Dev nD) (t : Fin (cfgM m).N) (h0 : t.val = 0) (y : S4x2x256x1152.Idx) : ∃ pc ∈ (pRunA m c t h0).1, y ∈ pc.1.set :=
  View.cover_of_wholeMem (pRunA m c t h0).1 (by sl_whole_mem) y

/-- The last point stores the whole output staging memref. -/
theorem coverC (c : Dev nD) (t : Fin (cfgM m).N) (h1 : t.val = 15) (xs : Vec F S4x2x256x1152 .f32) (y : S4x2x256x1088.Idx) :
    ∃ pc ∈ (pRunC m c t h1 xs).1.2, y ∈ pc.1.set :=
  View.cover_of_wholeMem (pRunC m c t h1 xs).1.2 (by sl_whole_mem) y

/-! ## What each point leaves -/

/-- The accumulator after the first, a middle and the last point, and the output block after the last. -/
def accA (c : Dev nD) (t : Fin (cfgM m).N) (h0 : t.val = 0) : Vec F S4x2x256x1152 .f32 :=
  accM.view.read (Elt F) (accM.view.writes (Elt F) accM.view.junk (pRunA m c t h0).1)
def accB (c : Dev nD) (t : Fin (cfgM m).N) (h0 : t.val ≠ 0) (h1 : t.val ≠ 15) (xs : Vec F S4x2x256x1152 .f32) : Vec F S4x2x256x1152 .f32 :=
  accM.view.read (Elt F) (accM.view.writes (Elt F) (haccM.unread xs) (pRunB m c t h0 h1 xs).1)
def accC (c : Dev nD) (t : Fin (cfgM m).N) (h1 : t.val = 15) (xs : Vec F S4x2x256x1152 .f32) : Vec F S4x2x256x1152 .f32 :=
  accM.view.read (Elt F) (accM.view.writes (Elt F) (haccM.unread xs) (pRunC m c t h1 xs).1.1)
def outC (c : Dev nD) (t : Fin (cfgM m).N) (h1 : t.val = 15) (xs : Vec F S4x2x256x1152 .f32) : Vec F S4x2x256x1088 .f32 :=
  (ms3 m t).view.read (Elt F) ((ms3 m t).view.writes (Elt F) (ms3 m t).view.junk (pRunC m c t h1 xs).1.2)

/-- The accumulator after point `n`. -/
def accAt (c : Dev nD) : (n : ℕ) → n < (cfgM m).N → Vec F S4x2x256x1152 .f32
  | 0, hn => accA m c ⟨0, hn⟩ rfl
  | n + 1, hn =>
    if h1 : n + 1 = 15 then accC m c ⟨n + 1, hn⟩ h1 (accAt c n (Nat.lt_of_succ_lt hn))
    else accB m c ⟨n + 1, hn⟩ (Nat.succ_ne_zero n) h1 (accAt c n (Nat.lt_of_succ_lt hn))

theorem accAt_A (c : Dev nD) (t : Fin (cfgM m).N) (h0 : t.val = 0) : accAt m c t.val t.isLt = accA m c t h0 := by
  obtain ⟨n, hn⟩ := t
  cases n with
  | zero => rfl
  | succ n => exact absurd h0 (Nat.succ_ne_zero n)
theorem accAt_B (c : Dev nD) (t : Fin (cfgM m).N) (h0 : t.val ≠ 0) (h1 : t.val ≠ 15) :
    accAt m c t.val t.isLt = accB m c t h0 h1 (accAt m c (t.val - 1) (Nat.lt_of_le_of_lt (Nat.sub_le _ _) t.isLt)) := by
  obtain ⟨n, hn⟩ := t
  cases n with
  | zero => exact absurd rfl h0
  | succ n => exact (dif_neg h1).trans rfl
theorem accAt_C (c : Dev nD) (t : Fin (cfgM m).N) (h1 : t.val = 15) :
    accAt m c t.val t.isLt = accC m c t h1 (accAt m c (t.val - 1) (Nat.lt_of_le_of_lt (Nat.sub_le _ _) t.isLt)) := by
  obtain ⟨n, hn⟩ := t
  cases n with
  | zero => exact absurd h1 (by simp)
  | succ n => exact (dif_pos h1).trans rfl

/-- The output block after point `t`: named at the last point only. -/
def outAt (c : Dev nD) (t : Fin (cfgM m).N) : Vec F S4x2x256x1088 .f32 :=
  if h1 : t.val = 15 then outC m c t h1 (accAt m c (t.val - 1) (Nat.lt_of_le_of_lt (Nat.sub_le _ _) t.isLt))
  else (ms3 m t).view.read (Elt F) (ms3 m t).view.junk

theorem outAt_C (c : Dev nD) (t : Fin (cfgM m).N) (h1 : t.val = 15) :
    outAt m c t = outC m c t h1 (accAt m c (t.val - 1) (Nat.lt_of_le_of_lt (Nat.sub_le _ _) t.isLt)) := dif_pos h1

/-! ## The invariant between points, and the proof data -/

/-- Before the first point the scratch is at anything; before point `n + 1` the accumulator is what point `n` left. -/
def PhiS (c : Dev nD) : (n : ℕ) → n ≤ (cfgM m).N → sProp 𝕄
  | 0, _ => iprop(Pipeline.ΦA spec0 c ∗ Pipeline.ΦT pre0 (tbl m) c)
  | n + 1, hn => iprop((owns (c : Thread nD τ) accM fullShare (accAt m c n hn) ∗ (∃ r, prngReg c r)) ∗ Pipeline.ΦT pre0 (tbl m) c)

theorem PhiS_zero (c : Dev nD) (n : ℕ) (h : n ≤ (cfgM m).N) (hz : n = 0) :
    PhiS m c n h = iprop(Pipeline.ΦA spec0 c ∗ Pipeline.ΦT pre0 (tbl m) c) := by
  subst hz; rfl
theorem PhiS_succ (c : Dev nD) (n : ℕ) (hn : n < (cfgM m).N) :
    PhiS m c (n + 1) hn = iprop((owns (c : Thread nD τ) accM fullShare (accAt m c n hn) ∗ (∃ r, prngReg c r)) ∗ Pipeline.ΦT pre0 (tbl m) c) := rfl
theorem PhiS_pos (c : Dev nD) (n : ℕ) (h : n ≤ (cfgM m).N) (hz : n ≠ 0) :
    PhiS m c n h = iprop((owns (c : Thread nD τ) accM fullShare (accAt m c (n - 1) (by omega)) ∗ (∃ r, prngReg c r)) ∗ Pipeline.ΦT pre0 (tbl m) c) := by
  cases n with
  | zero => exact absurd rfl hz
  | succ n => rfl

/-- The pipeline's proof data on core `c`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin (cfgM m).W) : (dats m 0 c).A w = V m c (Pipeline.arrRef spec0 w) := by
  dsimp only [dats]
theorem PhiS_castSucc (c : Dev nD) (t : Fin (cfgM m).N) : (dats m 0 c).Φ t.castSucc = PhiS m c t.val (Nat.le_of_lt t.isLt) := by
  dsimp only [dats]; exact Pipeline.Dat.Φ_castSucc (PhiS m c) t

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = outAt m c t := by dsimp only [dats]; try rfl

theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem leaves0 (c : Dev nD) (t : Fin (cfgM m).N) : (dats m 0 c).leavesExact 0 t = owns (c : Thread nD τ) (ms0 m t) fullShare (iblk m c 0 t) := by
  rw [← after0 m c t]
  unfold Dat.leavesExact
  rw [show (cfgM m).idle 0 ((cfgM m).grid.coords t) = false from rfl]
  try rfl
theorem before1 (c : Dev nD) (t : Fin (cfgM m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem leaves1 (c : Dev nD) (t : Fin (cfgM m).N) : (dats m 0 c).leavesExact 1 t = owns (c : Thread nD τ) (ms1 m t) fullShare (iblk m c 1 t) := by
  rw [← after1 m c t]
  unfold Dat.leavesExact
  rw [show (cfgM m).idle 1 ((cfgM m).grid.coords t) = false from rfl]
  try rfl
theorem before2 (c : Dev nD) (t : Fin (cfgM m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem leaves2 (c : Dev nD) (t : Fin (cfgM m).N) : (dats m 0 c).leavesExact 2 t = owns (c : Thread nD τ) (ms2 m t) fullShare (iblk m c 2 t) := by
  rw [← after2 m c t]
  unfold Dat.leavesExact
  rw [show (cfgM m).idle 2 ((cfgM m).grid.coords t) = false from rfl]
  try rfl

/-- Window 3 at a point that is not the last: handed back as found. -/
theorem leaves3_idle (c : Dev nD) (t : Fin (cfgM m).N) (h1 : t.val ≠ 15) :
    (dats m 0 c).leavesExact 3 t = iprop(∃ d, owns (c : Thread nD τ) (ms3 m t) fullShare ((dats m 0 c).before 3 t d)) := by
  refine Pipeline.Dat.leavesExact_idle _ 3 t ?_ ?_
  · show (!(k0_cond2 (grid0.coords t) == 1#1)) = true
    have h : ¬ k0_cond2 (grid0.coords t) = 1#1 := fun h => h1 ((isLast_iff t).mp h)
    simpa using h
  · exact Bool.eq_false_iff.mpr fun h => h1 ((flush_iff m t).mp h)
/-- Window 3 at the last point: the output block. -/
theorem leaves3_last (c : Dev nD) (t : Fin (cfgM m).N) (h1 : t.val = 15) :
    (dats m 0 c).leavesExact 3 t = owns (c : Thread nD τ) (ms3 m t) fullShare (outAt m c t) := by
  rw [← after3 m c t]
  have h : k0_cond2 (grid0.coords t) = 1#1 := (isLast_iff t).mpr h1
  unfold Dat.leavesExact
  rw [show (cfgM m).idle 3 ((cfgM m).grid.coords t) = false from by show (!(k0_cond2 (grid0.coords t) == 1#1)) = false; simp [h]]
  try rfl

/-! ## The body at a point -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point, by the point's case. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2]
  rw [show (dats m 0 c).owesAt () t.succ = (dats m 0 c).owesAt () t.castSucc from rfl]
  rw [show (dats m 0 c).Φ t.succ = PhiS m c (t.val + 1) t.isLt from rfl, PhiS_succ, PhiT_eq, leaves0, leaves1, leaves2]
  have hN := lt16 m t
  by_cases h0 : t.val = 0
  · rw [leaves3_idle m c t (by omega), PhiS_castSucc m c t, PhiS_zero m c _ _ h0, PhiT_eq, PhiA_eq, accAt_A m c t h0]
    iintro ⟨⟨⟨HS0, Hg⟩, HT0⟩, Ho, ⟨%d0, H0⟩, ⟨%d1, H1⟩, ⟨%d2, H2⟩, ⟨%d3, H3⟩⟩
    iapply ((pRunA m c t h0).2 _ Set.univ _)
    isplitl [H0]; · iexact H0
    isplitl [H1]; · iexact H1
    isplitl [H2]; · iexact H2
    isplitl [H3]; · iexact H3
    isplitl [HS0]; · iexact HS0
    isplitl [HT0]; · iexact HT0
    iintro ⟨H0, H1, H2, H3, ⟨%es0, HS0⟩, HT0⟩
    isplitl [HS0 Hg HT0]
    · isplitl [HS0 Hg]
      · isplitl [HS0]
        · unfold owns; iexists _; isplitr
          swap; · iexact HS0
          ipureintro; exact View.read_writes_of_cover _ _ _ _ _ (coverA m c t h0)
        iexact Hg
      iexact HT0
    isplitl [Ho]; · iexact Ho
    isplitl [H0]; · iexact H0
    isplitl [H1]; · iexact H1
    isplitl [H2]; · iexact H2
    iexists _; iexact H3
  · by_cases h1 : t.val = 15
    · rw [leaves3_last m c t h1, PhiS_castSucc m c t, PhiS_pos m c _ _ h0, PhiT_eq, accAt_C m c t h1, outAt_C m c t h1]
      iintro ⟨⟨⟨HS0, Hg⟩, HT0⟩, Ho, ⟨%d0, H0⟩, ⟨%d1, H1⟩, ⟨%d2, H2⟩, ⟨%d3, H3⟩⟩
      iapply ((pRunC m c t h1 _).2 Set.univ _)
      isplitl [H0]; · iexact H0
      isplitl [H1]; · iexact H1
      isplitl [H2]; · iexact H2
      isplitl [H3]; · iexists _; iexact H3
      isplitl [HS0]; · iexact HS0
      isplitl [HT0]; · iexact HT0
      iintro ⟨H0, H1, H2, ⟨%e3, H3⟩, HS0, HT0⟩
      isplitl [HS0 Hg HT0]
      · isplitl [HS0 Hg]
        · isplitl [HS0]
          · unfold owns; iexists _; isplitr
            swap; · iexact HS0
            ipureintro; rfl
          iexact Hg
        iexact HT0
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC m c t h1 _)
    · rw [leaves3_idle m c t h1, PhiS_castSucc m c t, PhiS_pos m c _ _ h0, PhiT_eq, accAt_B m c t h0 h1]
      iintro ⟨⟨⟨HS0, Hg⟩, HT0⟩, Ho, ⟨%d0, H0⟩, ⟨%d1, H1⟩, ⟨%d2, H2⟩, ⟨%d3, H3⟩⟩
      iapply ((pRunB m c t h0 h1 _).2 _ Set.univ _)
      isplitl [H0]; · iexact H0
      isplitl [H1]; · iexact H1
      isplitl [H2]; · iexact H2
      isplitl [H3]; · iexact H3
      isplitl [HS0]; · iexact HS0
      isplitl [HT0]; · iexact HT0
      iintro ⟨H0, H1, H2, H3, HS0, HT0⟩
      isplitl [HS0 Hg HT0]
      · isplitl [HS0 Hg]
        · isplitl [HS0]
          · unfold owns; iexists _; isplitr
            swap; · iexact HS0
            ipureintro; rfl
          iexact Hg
        iexact HT0
      isplitl [Ho]; · iexact Ho
      isplitl [H0]; · iexact H0
      isplitl [H1]; · iexact H1
      isplitl [H2]; · iexact H2
      iexists _; iexact H3

/-- The library's body obligation at every point. -/
theorem body_obligation (c : Dev nD) : BodyObligation (dats (F := F) m 0 c) (defs₀ (F := F)) Variants.none () Set.univ := fun t => by
  rw [bigSep_W0, bigSep_W0, defs_row m]
  exact triple_restated (sound_body m c t) rfl .rfl fun _ => .rfl

theorem hin (c : Dev nD) : iprop(Pipeline.ΦA spec0 c ∗ Pipeline.ΦT pre0 (tbl m) c) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last (cfgM m).N) ⊢ Pipeline.ΦA spec0 c := by
  rw [show (dats m 0 c).Φ (Fin.last (cfgM m).N) = PhiS m c (Fin.last (cfgM m).N).val (Nat.le_of_lt_succ (Fin.last (cfgM m).N).isLt) from rfl,
    PhiS_pos m c _ _ (by rw [Fin.val_last]; have := N_eq m; omega), PhiA_eq]
  iintro ⟨⟨HS0, Hg⟩, -⟩
  isplitl [HS0]
  · iexists _; iexact HS0
  iexact Hg

/-! ## The run -/

set_option backward.isDefEq.respectTransparency.types false in
set_option maxHeartbeats 800000 in
/-- Every weakly fair execution of the program terminates with the arrays as the proof data say, every other buffer as the host
lines leave it, and every counter at zero. -/
theorem run_main : θ_run defs (onTc (τ := τ) (main (F := F))) (s₀ m ρ)
    (fun r => Pipeline.FramePost (Pipeline.pin pcfgs fun _ => adm m) (dats m) 0 (Pipeline.afterTail pcfgs (fun _ => adm m) (dats m) 0 (V0 m) [hostOps1]) r
      ∧ r.2.sem = fun _ => 0) :=
  Pipeline.θ_run_frameP_around_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hpf := V_pre m) (hin := hin m) (hout := hout m)

end Cert.KernelIdeal.Band

end
-- ==== Proof.Band.Result.lean ====
module

public import proofs.«01_k».proof.Proof.Band.Frame
public import Idealize.ShloMosaic.Lib.Pipeline.Value
public import Idealize.ShloMosaic.Lib.Pipeline.ValueKit.Basic

/-!
What the program returns, and its frame.
-/

@[expose] public section

set_option maxRecDepth 16384

noncomputable section

namespace Cert.KernelIdeal.Band

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last grid point. -/
abbrev tLast : Fin (cfgM m).N := ⟨15, by have := N_eq m; omega⟩

/-- The output window's block at any point is the whole array: its offsets are zero. -/
theorem off_zero (t : Fin (cfgM m).N) : (fun a => ((cfgM m).win 3).index t a * main_call0_v9.ty.shape.size a) = fun _ => 0 :=
  funext fun a => by
    show cc0_transform_3 (grid0.coords t) a * _ = 0
    fin_cases a <;> exact Nat.zero_mul _

theorem flushed_out (c : Dev nD) (t : Fin (cfgM m).N) (hf : ((cfgM m).win 3).flush t = true) :
    (dats m 0 c).flushed 3 t = (((cfgM m).win 3).blk t).view.read (Elt F) (outAt m c (tLast m) : S4x2x256x1088.Idx → Elt F .f32) := by
  obtain rfl : t = tLast m := Fin.ext ((flush_iff m t).mp hf)
  show ((cfgM m).win 3).cut (grid0.coords (tLast m)) ((dats m 0 c).after 3 (tLast m)) = _
  rw [after3]
  exact (Memref.read_access_unit_zero (Elt F) main_call0_v9 (off_zero m _) (fun a => by rw [congrFun (off_zero m _) a]; simp) (outAt m c (tLast m))).symm

/-- The output array after the region: the block the last point writes back, which is the whole array. -/
theorem arr_out (c : Dev nD) : (dats m 0 c).arrAt 3 (cfgM m).N = (outAt m c (tLast m) : S4x2x256x1088.Idx → Elt F .f32) :=
  (dats m 0 c).arrAt_eq_of_cover 3 _ (flushed_out m c) fun i => ⟨tLast m, (flush_iff m _).mpr rfl, by
    show i ∈ ((View.whole main_call0_v9).slice (((cfgM m).win 3).rect (tLast m))).set
    erw [View.set_slice_whole]
    refine (Pipeline.Window.mem_rect_iff ((cfgM m).win 3) (tLast m) i (by rfl)).mpr fun a => ?_
    have e : ((cfgM m).win 3).index (tLast m) a * ((cfgM m).win 3).size a = 0
        ∧ ((cfgM m).win 3).xsize (grid0.coords (tLast m)) a = S4x2x256x1088.size a := by
      fin_cases a <;> exact ⟨rfl, rfl⟩
    rw [e.1, e.2, Nat.zero_add]
    exact ⟨Nat.zero_le _, (i a).isLt⟩⟩

/-- No host operation after the region writes an argument, and none is an array of the pipeline. -/
theorem tail_keep (c : Dev nD) (b : Ref sig .tc) (hb : b ≠ main_v0) (hw : ∀ w, Pipeline.arrRef spec0 w ≠ b) (hp : b ∉ preWrites) :
    Pipeline.afterTail pcfgs (fun _ => adm m) (dats m) 0 (V0 m) [hostOps1] c b = m ((c : Thread nD τ).loc b) := by
  unfold Pipeline.afterTail
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact StableHlo.devRef_ne_of_ne hb)),
    Pipeline.withArrays_of_ne _ c (V0 m c) _ b hw]
  exact V_keep m c b hp

/-- The result the program returns: the slice of the output array. -/
def result (c : Dev nD) : Vec F S4x2x256x1025 .f32 :=
  extractStridedSlice S4x2x256x1025 ![0, 0, 0, 0] (outAt m c (tLast m)) Facts₀.slices_S4x2x256x1088_S4x2x256x1025_0_0_0_0

theorem slice_result (W : Valuation τ sig (Elt F)) :
    StableHlo.after (List.flatten [hostOps1]) W (Proc.devRef .tc main_v0)
      = extractStridedSlice S4x2x256x1025 ![0, 0, 0, 0] (W (Proc.devRef .tc main_call0_v9) : S4x2x256x1088.Idx → Elt F .f32) Facts₀.slices_S4x2x256x1088_S4x2x256x1025_0_0_0_0 := by
  rw [StableHlo.after_last_write (ops := List.flatten [hostOps1]) (i := 0) (W := []) rfl rfl (by decide)]
  refine (StableHlo.unary_result ..).trans ?_
  rfl

theorem tail_result (c : Dev nD) :
    Pipeline.afterTail pcfgs (fun _ => adm m) (dats m) 0 (V0 m) [hostOps1] c main_v0 = result m c := by
  unfold Pipeline.afterTail
  rw [slice_result]
  have h := Pipeline.withArrays_arr spec0 (launch0 (F := F)).win.arr_inj c (V0 m c) (fun w => (dats m 0 c).arrAt w (cfgM m).N) 3
  exact congrArg (fun x : S4x2x256x1088.Idx → Elt F .f32 => extractStridedSlice S4x2x256x1025 ![0, 0, 0, 0] x Facts₀.slices_S4x2x256x1088_S4x2x256x1025_0_0_0_0) (h.trans (arr_out m c))

/-- Every weakly fair execution terminates with the result, the arguments unchanged and every counter at zero. -/
theorem run_result : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_v0 (Pipeline.mem_restRefs_of main_v0 (by decide) (by exact (by decide : ∀ w, (spec0 w).arr.view.ref ≠ main_v0)))).trans (tail_result m c),
      ((h.1 c).2 main_arg0 (Pipeline.mem_restRefs_of main_arg0 (by decide) (by exact (by decide : ∀ w, (spec0 w).arr.view.ref ≠ main_arg0)))).trans (tail_keep m c main_arg0 (by decide) (by exact (by decide : ∀ w, Pipeline.arrRef spec0 w ≠ main_arg0)) (by decide)),
      ((h.1 c).2 main_arg1 (Pipeline.mem_restRefs_of main_arg1 (by decide) (by exact (by decide : ∀ w, (spec0 w).arr.view.ref ≠ main_arg1)))).trans (tail_keep m c main_arg1 (by decide) (by exact (by decide : ∀ w, Pipeline.arrRef spec0 w ≠ main_arg1)) (by decide)),
      ((h.1 c).2 main_arg2 (Pipeline.mem_restRefs_of main_arg2 (by decide) (by exact (by decide : ∀ w, (spec0 w).arr.view.ref ≠ main_arg2)))).trans (tail_keep m c main_arg2 (by decide) (by exact (by decide : ∀ w, Pipeline.arrRef spec0 w ≠ main_arg2)) (by decide)),
      ((h.1 c).2 main_arg3 (Pipeline.mem_restRefs_of main_arg3 (by decide) (by exact (by decide : ∀ w, (spec0 w).arr.view.ref ≠ main_arg3)))).trans (tail_keep m c main_arg3 (by decide) (by exact (by decide : ∀ w, Pipeline.arrRef spec0 w ≠ main_arg3)) (by decide)),
      ((h.1 c).2 main_arg4 (Pipeline.mem_restRefs_of main_arg4 (by decide) (by exact (by decide : ∀ w, (spec0 w).arr.view.ref ≠ main_arg4)))).trans (tail_keep m c main_arg4 (by decide) (by exact (by decide : ∀ w, Pipeline.arrRef spec0 w ≠ main_arg4)) (by decide)),
      ((h.1 c).2 main_arg5 (Pipeline.mem_restRefs_of main_arg5 (by decide) (by exact (by decide : ∀ w, (spec0 w).arr.view.ref ≠ main_arg5)))).trans (tail_keep m c main_arg5 (by decide) (by exact (by decide : ∀ w, Pipeline.arrRef spec0 w ≠ main_arg5)) (by decide))⟩, h.2⟩)
    (run_main m ρ)

/-- The frame: the arguments end unchanged and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_result m ρ)

end Cert.KernelIdeal.Band

end
-- ==== Proof.Frames.lean ====
module

public import proofs.«01_k».proof.Defs
public import proofs.«01_k».proof.Proof.Gen.Kernel.Launch
public import proofs.«01_k».proof.Proof.Gen.ReferenceIdeal.Run
public import proofs.«01_k».proof.Proof.Band.Result
public import Idealize.ShloMosaic.Adequacy

/-!
The frames: each program runs, leaves its arguments unchanged and ends with every counter at zero.
-/

@[expose] public section

noncomputable section

namespace Cert.Proof

open Idealize.ShloMosaic Idealize.SL.Sem

/-- The kernel over extended reals. -/
theorem frame_kernelIdeal : @Cert.quiescent_KernelIdeal Cert.KernelIdeal.Gen.facts := fun m g _ =>
  Cert.KernelIdeal.Band.frame_main (F := Ideal) m g

set_option maxHeartbeats 4000000 in
set_option maxRecDepth 65536 in
theorem body_eq [a : Cert.Kernel.Facts] [b : Cert.KernelIdeal.Facts] : @Cert.Kernel.cc0__band_kernel Bits _ a = @Cert.KernelIdeal.cc0__band_kernel Bits _ b := rfl

set_option maxHeartbeats 4000000 in
set_option maxRecDepth 65536 in
theorem defs0_eq [a : Cert.Kernel.Facts] [b : Cert.KernelIdeal.Facts] : @Cert.Kernel.defs₀ Bits _ a = @Cert.KernelIdeal.defs₀ Bits _ b := by
  funext pr l v
  match pr, l, v with
  | .tc, ⟨0, _⟩, (t, s) => rfl
  | .tc, ⟨_ + 1, h⟩, _ => exact absurd h (Nat.not_lt.2 (Nat.le_add_left _ _))
  | .scScalar _, _, _ => rfl
  | .scVector _ _, _, _ => rfl

set_option maxHeartbeats 4000000 in
set_option maxRecDepth 65536 in
theorem defs_eq [a : Cert.Kernel.Facts] [b : Cert.KernelIdeal.Facts] : @Cert.Kernel.defs Bits _ a = @Cert.KernelIdeal.defs Bits _ b :=
  congrArg (fun d => Pipeline.defs (@Cert.KernelIdeal.pcfgs Bits _ b) d) defs0_eq

set_option maxHeartbeats 4000000 in
set_option maxRecDepth 65536 in
theorem main_eq [a : Cert.Kernel.Facts] [b : Cert.KernelIdeal.Facts] : @Cert.Kernel.main Bits _ a = @Cert.KernelIdeal.main Bits _ b := rfl

set_option maxHeartbeats 4000000 in
set_option maxRecDepth 65536 in
/-- The kernel over bit patterns: the ideal pass rewrote nothing, so it is the same text read at another instance. -/
theorem frame_kernel : @Cert.quiescent_Kernel Cert.Kernel.Gen.facts := fun m g _ => by
  have h := Cert.KernelIdeal.Band.frame_main (F := Bits) m g
  have e := defs_eq (a := Cert.Kernel.Gen.facts) (b := Cert.KernelIdeal.Gen.facts)
  have e' := main_eq (a := Cert.Kernel.Gen.facts) (b := Cert.KernelIdeal.Gen.facts)
  rw [← e, ← e'] at h
  exact h

/-- The reference: its run is a list of host operations, and it declares no semaphore. -/
theorem frame_reference : @Cert.quiescent_ReferenceIdeal Cert.ReferenceIdeal.Gen.facts := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Proof

end
-- ==== Proof.Band.Payload.lean ====
module

public import proofs.«01_k».proof.Proof.Band.Result
public import Idealize.ShloMosaic.PureOps.Ideal.Laws
public import Idealize.ShloMosaic.Lib.KernelVsHost
public import Idealize.ShloMosaic.Lib.MatmulPlain

/-!
What one band adds to the accumulator, over extended reals: the payload of each of its two stores read at an index.
-/

@[expose] public section

set_option maxRecDepth 16384

noncomputable section

namespace Cert.KernelIdeal.Band

open Cert.KernelIdeal.Gen
open Idealize.ShloMosaic Idealize.ShloMosaic.TcCoe Idealize.ShloMosaic.ValueIdx

/-- A matrix of 125 columns widened with zeros to 256 and rotated by `r` places: column `q` holds column `q - r` where there is one,
and zero elsewhere. -/
theorem spread_apply (r : BitVec 32) (hr : r.toNat ≤ 131) (a : FVec Ideal S1024x125 .f32) (z : FVec Ideal S1024x131 .f32)
    (hz : ∀ i, z i = 0) (row : Fin 1024) (q : Fin 256) :
    dynamicRotate 1 r none (concatenate S1024x256 1 [⟨S1024x125, a⟩, ⟨S1024x131, z⟩] Facts₀.concatenates_S1024x125_S1024x131_S1024x256_d1)
        Facts₀.rotates_S1024x256_d1 (ix2 row q)
      = if h : r.toNat ≤ q.val ∧ q.val < r.toNat + 125 then a (ix2 row ⟨q.val - r.toNat, by omega⟩) else 0 := by
  have hq := q.isLt
  rw [dynamicRotate_apply 1 r _ _ (ix2 row q) (ix2 row ⟨(q.val + 256 - r.toNat % 256) % 256, Nat.mod_lt _ (by decide)⟩) (by
    intro b
    match b with
    | ⟨0, _⟩ => rfl
    | ⟨1, _⟩ => rfl)]
  by_cases h : r.toNat ≤ q.val ∧ q.val < r.toNat + 125
  · rw [dif_pos h]
    refine concatenate_pair_apply_left (t := S1024x256) (s₁ := S1024x125) (s₂ := S1024x131) 1 a z _ _ rfl _ ?_
    intro b
    match b with
    | ⟨0, _⟩ => rfl
    | ⟨1, _⟩ => show q.val - r.toNat = (q.val + 256 - r.toNat % 256) % 256; omega
  · rw [dif_neg h]
    have hp : 125 ≤ (q.val + 256 - r.toNat % 256) % 256 := by omega
    have hl : (q.val + 256 - r.toNat % 256) % 256 < 256 := Nat.mod_lt _ (by decide)
    rw [concatenate_pair_apply_right (t := S1024x256) (s₁ := S1024x125) (s₂ := S1024x131) 1 a z _ _ rfl rfl
      (ix2 row ⟨(q.val + 256 - r.toNat % 256) % 256 - 125, by omega⟩) (by
        intro b hb
        match b with
        | ⟨0, _⟩ => rfl
        | ⟨1, _⟩ => exact absurd rfl hb) (by
        show (q.val + 256 - r.toNat % 256) % 256 - 125 + 125 = (q.val + 256 - r.toNat % 256) % 256
        omega)]
    exact hz _

/-- The kernel's matrix product of a band's block with its weights. -/
theorem pay6_apply (x : Vec Ideal S1x1024x128 .f32) (w : Vec Ideal S1x128x250 .bf16) (row : Fin 1024) (n : Fin 250) :
    k0_pay6 (F := Ideal) x w (ix2 row n) = ∑ d : Fin 128, x (ix3 0 row d) * w (ix3 0 d n) := by
  unfold k0_pay6
  refine (Ideal.matmul_plain_apply (M := 1024) (K := 128) (N := 250) none _ _ _ row n).trans ?_
  refine (congrArg₂ (· + ·) Ideal.ofBits_zero_f32 rfl).trans ((zero_add _).trans (Finset.sum_congr rfl fun d _ => ?_))
  congr 1
  · refine shapeCast_apply x Facts₀.shapeCasts_S1x1024x128_S1024x128 (ix2 row d) (ix3 0 row d) ?_
    refine (Shape.rowMajor_val_three _).trans ((Shape.rowMajor_val_two _).trans ?_).symm
    show row.val * 128 + d.val = (0 * 1024 + row.val) * 128 + d.val
    omega
  · refine shapeCast_apply w Facts₀.shapeCasts_S1x128x250_S128x250 (ix2 d n) (ix3 0 d n) ?_
    refine (Shape.rowMajor_val_three _).trans ((Shape.rowMajor_val_two _).trans ?_).symm
    show d.val * 250 + n.val = (0 * 128 + d.val) * 250 + n.val
    omega

/-- Adding a rotated matrix to what a window of the accumulator holds. -/
theorem pay9_apply (u : FVec Ideal S1024x256 .f32) (v : Vec Ideal S4x1x256x256 .f32) (j : S4x1x256x256.Idx) :
    k0_pay9 (F := Ideal) u v j
      = v j + u (ix2 ⟨(j 0).val * 256 + (j 2).val, by
          have h0 : (j 0).val < 4 := (j 0).isLt
          have h2 : (j 2).val < 256 := (j 2).isLt
          omega⟩ (j 3)) := by
  have h1 : (j 1).val < 1 := (j 1).isLt
  unfold k0_pay9
  rw [shapeCast_apply _ Facts₀.shapeCasts_S4x256x256_S4x1x256x256 j (ix3 (j 0) (j 2) (j 3)) (by
    refine (Shape.rowMajor_val_three _).trans ((Shape.rowMajor_val_four _).trans ?_).symm
    show (((j 0).val * 1 + (j 1).val) * 256 + (j 2).val) * 256 + (j 3).val = ((j 0).val * 256 + (j 2).val) * 256 + (j 3).val
    omega)]
  refine congrArg₂ (· + ·) ?_ ?_
  · refine shapeCast_apply v Facts₀.shapeCasts_S4x1x256x256_S4x256x256 _ j ?_
    refine (Shape.rowMajor_val_four _).trans ((Shape.rowMajor_val_three _).trans ?_).symm
    show ((j 0).val * 256 + (j 2).val) * 256 + (j 3).val = (((j 0).val * 1 + (j 1).val) * 256 + (j 2).val) * 256 + (j 3).val
    omega
  · refine shapeCast_apply u Facts₀.shapeCasts_S1024x256_S4x256x256 _ _ ?_
    refine (Shape.rowMajor_val_two _).trans ((Shape.rowMajor_val_three _).trans ?_).symm
    rfl

/-- What one band adds at a place of the accumulator: with its first bin at `s`, the product of the row of its block and the column of
its weights that the place names, where its 125 bins reach, and nothing elsewhere. -/
def bandAdd (x : Vec Ideal S1x1024x128 .f32) (w : Vec Ideal S1x128x250 .bf16) (s : ℕ) (y : S4x2x256x1152.Idx) : EReal :=
  if h : s ≤ (y 3).val ∧ (y 3).val < s + 125 then
    ∑ d : Fin 128, x (ix3 0 ⟨(y 0).val * 256 + (y 2).val, by
        have h0 : (y 0).val < 4 := (y 0).isLt
        have h2 : (y 2).val < 256 := (y 2).isLt
        omega⟩ d)
      * w (ix3 0 d ⟨125 * (y 1).val + ((y 3).val - s), by
        have h1 : (y 1).val < 2 := (y 1).isLt
        omega⟩)
  else 0

theorem zeros_apply (i : S1024x131.Idx) : k0_pay5 (F := Ideal) i = 0 := Ideal.ofBits_zero_f32

/-- The second channel's rotated matrix, at an index. -/
theorem pay7_apply (x : Vec Ideal S1x1024x128 .f32) (w : Vec Ideal S1x128x250 .bf16) (r : BitVec 32) (hr : r.toNat ≤ 131)
    (row : Fin 1024) (q : Fin 256) :
    k0_pay7 (F := Ideal) x w r (ix2 row q)
      = if h : r.toNat ≤ q.val ∧ q.val < r.toNat + 125 then
          ∑ d : Fin 128, x (ix3 0 row d) * w (ix3 0 d ⟨125 * 1 + (q.val - r.toNat), by omega⟩)
        else 0 := by
  unfold k0_pay7
  refine (spread_apply r hr _ _ zeros_apply row q).trans ?_
  by_cases h : r.toNat ≤ q.val ∧ q.val < r.toNat + 125
  · rw [dif_pos h, dif_pos h, ← pay6_apply]
    refine extractStridedSlice_apply _ _ Facts₀.slices_S1024x250_o0_125_S1024x125 _ _ ?_
    intro a
    match a with
    | ⟨0, _⟩ => exact (Nat.zero_add _).symm
    | ⟨1, _⟩ => rfl
  · rw [dif_neg h, dif_neg h]

/-- The first channel's rotated matrix. -/
def lowRot (x : Vec Ideal S1x1024x128 .f32) (w : Vec Ideal S1x128x250 .bf16) (r : BitVec 32) : FVec Ideal S1024x256 .f32 :=
  dynamicRotate 1 r none (concatenate S1024x256 1 [⟨S1024x125, extractStridedSlice S1024x125 ![0, 0] (k0_pay6 (F := Ideal) x w) Facts₀.slices_S1024x250_o0_0_S1024x125⟩,
    ⟨S1024x131, k0_pay5 (F := Ideal)⟩] Facts₀.concatenates_S1024x125_S1024x131_S1024x256_d1) Facts₀.rotates_S1024x256_d1

theorem lowRot_apply (x : Vec Ideal S1x1024x128 .f32) (w : Vec Ideal S1x128x250 .bf16) (r : BitVec 32) (hr : r.toNat ≤ 131)
    (row : Fin 1024) (q : Fin 256) :
    lowRot x w r (ix2 row q)
      = if h : r.toNat ≤ q.val ∧ q.val < r.toNat + 125 then
          ∑ d : Fin 128, x (ix3 0 row d) * w (ix3 0 d ⟨125 * 0 + (q.val - r.toNat), by omega⟩)
        else 0 := by
  unfold lowRot
  refine (spread_apply r hr _ _ zeros_apply row q).trans ?_
  by_cases h : r.toNat ≤ q.val ∧ q.val < r.toNat + 125
  · rw [dif_pos h, dif_pos h, ← pay6_apply]
    refine extractStridedSlice_apply _ _ Facts₀.slices_S1024x250_o0_0_S1024x125 _ _ ?_
    intro a
    match a with
    | ⟨0, _⟩ => exact (Nat.zero_add _).symm
    | ⟨1, _⟩ => rfl
  · rw [dif_neg h, dif_neg h]

end Cert.KernelIdeal.Band

end
-- ==== Proof.Band.Chain.lean ====
module

public import proofs.«01_k».proof.Proof.Band.Payload
public import Idealize.ShloMosaic.Lib.Writes

/-!
One band's two stores into the accumulator, read at an index: what was there before, and what the band adds.
-/

@[expose] public section

set_option maxRecDepth 16384

noncomputable section

namespace Cert.KernelIdeal.Band

open Cert.KernelIdeal.Gen
open Idealize.ShloMosaic Idealize.ShloMosaic.TcCoe Idealize.ShloMosaic.ValueIdx

/-- A store of one channel of a band, at the window that starts at column `o`: at an index of that channel the band's part is added, at
one of the other channel nothing changes. -/
theorem step {sp : Space} (v : View sig .tc sp S4x2x256x1152 .f32) (f : v.ty.Contents (Elt Ideal)) (L : List (View.Piece (Elt Ideal) S4x2x256x1152 .f32))
    (ch : ℕ) (hch : ch < 2) (o : ℕ) (off : Fin 4 → ℕ) (h0 : off 0 = 0) (h1 : off 1 = ch) (h2 : off 2 = 0) (h3 : off 3 = o)
    (inb : ∀ a, off a + S4x1x256x256.size a ≤ S4x2x256x1152.size a)
    (x : Vec Ideal S1x1024x128 .f32) (w : Vec Ideal S1x128x250 .bf16) (r : BitVec 32) (hr : r.toNat ≤ 131) (u : FVec Ideal S1024x256 .f32)
    (hu : ∀ (row : Fin 1024) (q : Fin 256), u (ix2 row q) = if h : r.toNat ≤ q.val ∧ q.val < r.toNat + 125 then
          ∑ d : Fin 128, x (ix3 0 row d) * w (ix3 0 d ⟨125 * ch + (q.val - r.toNat), by omega⟩)
        else 0)
    (y : S4x2x256x1152.Idx) :
    v.read (Elt Ideal) (v.writes (Elt Ideal) f
        (⟨Rect.unit (s := S4x2x256x1152) off S4x1x256x256.size inb,
          k0_pay9 (F := Ideal) u (View.readAt (Elt Ideal) v (Rect.unit (s := S4x2x256x1152) off S4x1x256x256.size inb).toLoadRect (v.writes (Elt Ideal) f L))⟩ :: L)) y
      = v.read (Elt Ideal) (v.writes (Elt Ideal) f L) y + (if (y 1).val = ch then bandAdd x w (o + r.toNat) y else 0) := by
  have y0 : (y 0).val < 4 := (y 0).isLt
  have y1 : (y 1).val < 2 := (y 1).isLt
  have y2 : (y 2).val < 256 := (y 2).isLt
  have y3 : (y 3).val < 1152 := (y 3).isLt
  by_cases hc : (y 1).val = ch
  · rw [if_pos hc]
    by_cases hw : o ≤ (y 3).val ∧ (y 3).val < o + 256
    · have hj : ∀ a, (y a).val = (Rect.unit (s := S4x2x256x1152) off S4x1x256x256.size inb).off a
          + (Rect.unit (s := S4x2x256x1152) off S4x1x256x256.size inb).stride a
            * ((ix4 (y 0) 0 (y 2) ⟨(y 3).val - o, by omega⟩ : S4x1x256x256.Idx) a).val := by
        intro a
        match a with
        | ⟨0, _⟩ => show (y 0).val = off 0 + 1 * (y 0).val; omega
        | ⟨1, _⟩ => show (y 1).val = off 1 + 1 * 0; omega
        | ⟨2, _⟩ => show (y 2).val = off 2 + 1 * (y 2).val; omega
        | ⟨3, _⟩ => show (y 3).val = off 3 + 1 * ((y 3).val - o); omega
      rw [View.read_writes_cons_hit_of_coords v f _ _ L (ix4 (y 0) 0 (y 2) ⟨(y 3).val - o, by omega⟩ : S4x1x256x256.Idx) y hj]
      refine (pay9_apply u _ _).trans (congrArg₂ (· + ·) ?_ ?_)
      · exact congrArg (v.read (Elt Ideal) (v.writes (Elt Ideal) f L)) (Rect.emb_eq_of_coords _ _ y hj)
      · refine (hu _ _).trans ?_
        unfold bandAdd
        by_cases hb : o + r.toNat ≤ (y 3).val ∧ (y 3).val < o + r.toNat + 125
        · rw [dif_pos hb, dif_pos (show r.toNat ≤ (y 3).val - o ∧ (y 3).val - o < r.toNat + 125 by omega)]
          refine Finset.sum_congr rfl fun d _ => congrArg₂ (· * ·) rfl ?_
          refine congrArg (fun n : Fin 250 => w (ix3 0 d n)) (Fin.ext ?_)
          show 125 * ch + ((y 3).val - o - r.toNat) = 125 * (y 1).val + ((y 3).val - (o + r.toNat))
          rw [hc]; omega
        · rw [dif_neg hb, dif_neg (show ¬(r.toNat ≤ (y 3).val - o ∧ (y 3).val - o < r.toNat + 125) by omega)]
    · rw [View.read_writes_cons_miss_of_axis v f _ L y 3 o 256 h3 rfl rfl (by omega)]
      unfold bandAdd
      rw [dif_neg (by omega), add_zero]
  · rw [if_neg hc, add_zero]
    exact View.read_writes_cons_miss_of_axis v f _ L y 1 ch 1 h1 rfl rfl (by omega)

/-- A band's two stores, one after the other. -/
theorem band_step {sp : Space} (v : View sig .tc sp S4x2x256x1152 .f32) (f : v.ty.Contents (Elt Ideal)) (L : List (View.Piece (Elt Ideal) S4x2x256x1152 .f32))
    (wd r : BitVec 32) (hwd : wd.toNat ≤ 7) (hr : r.toNat ≤ 131)
    (inb : ∀ a, k0_off3 wd a + S4x1x256x256.size a ≤ S4x2x256x1152.size a) (inb' : ∀ a, k0_off4 wd a + S4x1x256x256.size a ≤ S4x2x256x1152.size a)
    (x : Vec Ideal S1x1024x128 .f32) (w : Vec Ideal S1x128x250 .bf16)
    (L₁ : List (View.Piece (Elt Ideal) S4x2x256x1152 .f32))
    (hL₁ : L₁ = ⟨Rect.unit (s := S4x2x256x1152) (k0_off3 wd) S4x1x256x256.size inb,
          k0_pay9 (F := Ideal) (lowRot x w r) (View.readAt (Elt Ideal) v (Rect.unit (s := S4x2x256x1152) (k0_off3 wd) S4x1x256x256.size inb).toLoadRect (v.writes (Elt Ideal) f L))⟩ :: L)
    (L₂ : List (View.Piece (Elt Ideal) S4x2x256x1152 .f32))
    (hL₂ : L₂ = ⟨Rect.unit (s := S4x2x256x1152) (k0_off4 wd) S4x1x256x256.size inb',
          k0_pay9 (F := Ideal) (k0_pay7 (F := Ideal) x w r) (View.readAt (Elt Ideal) v (Rect.unit (s := S4x2x256x1152) (k0_off4 wd) S4x1x256x256.size inb').toLoadRect (v.writes (Elt Ideal) f L₁))⟩ :: L₁)
    (y : S4x2x256x1152.Idx) :
    v.read (Elt Ideal) (v.writes (Elt Ideal) f L₂) y = v.read (Elt Ideal) (v.writes (Elt Ideal) f L) y + bandAdd x w (128 * wd.toNat + r.toNat) y := by
  have e : (wd * 128#32).toNat = 128 * wd.toNat := by rw [BitVec.toNat_mul]; simp only [BitVec.toNat_ofNat]; omega
  have y1 : (y 1).val < 2 := (y 1).isLt
  rw [hL₂, step v f L₁ 1 (by decide) (128 * wd.toNat) (k0_off4 wd) rfl rfl rfl e inb' x w r hr _ (pay7_apply x w r hr) y,
    hL₁, step v f L 0 (by decide) (128 * wd.toNat) (k0_off3 wd) rfl rfl rfl e inb x w r hr _ (lowRot_apply x w r hr) y]
  by_cases hc : (y 1).val = 0
  · rw [if_pos hc, if_neg (by omega), add_zero]
  · rw [if_neg hc, if_pos (by omega), add_zero]

end Cert.KernelIdeal.Band

end
-- ==== Proof.Band.Point.lean ====
module

public import proofs.«01_k».proof.Proof.Band.Chain
public import Idealize.ShloMosaic.Lib.IdealHost

/-!
What one grid point does to the accumulator, over extended reals: its four bands are added.
-/

@[expose] public section

set_option maxRecDepth 16384

noncomputable section

namespace Cert.KernelIdeal.Band

open Cert.KernelIdeal.Gen
open Idealize.ShloMosaic Idealize.ShloMosaic.TcCoe Idealize.ShloMosaic.ValueIdx

/-- The first bin of band `n`: the table's window of 128, and the rotation inside it. -/
def startOf (n : ℕ) (h : n < 64) : ℕ := 128 * (lit0 ⟨0 + n, by omega⟩).toNat + (lit0 ⟨64 + n, by omega⟩).toNat

/-- Every rotation the table names keeps a band inside its window. -/
theorem rot_le : ∀ n : Fin 64, (lit0 ⟨64 + n.val, by omega⟩).toNat ≤ 131 := by decide
theorem win_le : ∀ n : Fin 64, (lit0 ⟨0 + n.val, by omega⟩).toNat ≤ 7 := by decide

/-- What band `b` of a block of four adds at a place of the accumulator, with its first bin at `s`. -/
def bandOf (x : Vec Ideal S4x1024x128 .f32) (w : Vec Ideal S4x128x250 .bf16) (b : Fin 4) (s : ℕ) (y : S4x2x256x1152.Idx) : EReal :=
  if h : s ≤ (y 3).val ∧ (y 3).val < s + 125 then
    ∑ d : Fin 128, x (ix3 b ⟨(y 0).val * 256 + (y 2).val, by
        have h0 : (y 0).val < 4 := (y 0).isLt
        have h2 : (y 2).val < 256 := (y 2).isLt
        omega⟩ d)
      * w (ix3 b d ⟨125 * (y 1).val + ((y 3).val - s), by
        have h1 : (y 1).val < 2 := (y 1).isLt
        omega⟩)
  else 0

/-- A block's member `b`, as the body loads it. -/
abbrev memX (arg2 : Memref sig .tc .vmem S4x1024x128 .f32) (harg2 : arg2.IsWhole) (x0 : Vec Ideal S4x1024x128 .f32) (off : Fin 3 → ℕ)
    (inb : ∀ a, off a + S1x1024x128.size a ≤ S4x1024x128.size a) : Vec Ideal S1x1024x128 .f32 :=
  View.readAt (Elt Ideal) arg2.view (Rect.unit (s := S4x1024x128) off S1x1024x128.size inb).toLoadRect (harg2.unread x0)
abbrev memW (arg3 : Memref sig .tc .vmem S4x128x250 .bf16) (harg3 : arg3.IsWhole) (x1 : Vec Ideal S4x128x250 .bf16) (off : Fin 3 → ℕ)
    (inb : ∀ a, off a + S1x128x250.size a ≤ S4x128x250.size a) : Vec Ideal S1x128x250 .bf16 :=
  View.readAt (Elt Ideal) arg3.view (Rect.unit (s := S4x128x250) off S1x128x250.size inb).toLoadRect (harg3.unread x1)

theorem bandAdd_mem (arg2 : Memref sig .tc .vmem S4x1024x128 .f32) (harg2 : arg2.IsWhole) (arg3 : Memref sig .tc .vmem S4x128x250 .bf16) (harg3 : arg3.IsWhole)
    (x0 : Vec Ideal S4x1024x128 .f32) (x1 : Vec Ideal S4x128x250 .bf16) (b : Fin 4) (off : Fin 3 → ℕ) (h0 : off 0 = b.val) (h1 : off 1 = 0) (h2 : off 2 = 0)
    (inb : ∀ a, off a + S1x1024x128.size a ≤ S4x1024x128.size a) (inb' : ∀ a, off a + S1x128x250.size a ≤ S4x128x250.size a)
    (s : ℕ) (y : S4x2x256x1152.Idx) :
    bandAdd (memX arg2 harg2 x0 off inb) (memW arg3 harg3 x1 off inb') s y = bandOf x0 x1 b s y := by
  have hx : ∀ (row : Fin 1024) (d : Fin 128), memX arg2 harg2 x0 off inb (ix3 0 row d) = x0 (ix3 b row d) := fun row d => by
    refine (congrFun (harg2.read_unread (Val := Elt Ideal) x0) _).trans (congrArg x0 ?_)
    refine Rect.emb_eq_of_coords _ _ _ fun a => ?_
    match a with
    | ⟨0, _⟩ => show b.val = off 0 + 1 * 0; omega
    | ⟨1, _⟩ => show row.val = off 1 + 1 * row.val; omega
    | ⟨2, _⟩ => show d.val = off 2 + 1 * d.val; omega
  have hw : ∀ (d : Fin 128) (n : Fin 250), memW arg3 harg3 x1 off inb' (ix3 0 d n) = x1 (ix3 b d n) := fun d n => by
    refine (congrFun (harg3.read_unread (Val := Elt Ideal) x1) _).trans (congrArg x1 ?_)
    refine Rect.emb_eq_of_coords _ _ _ fun a => ?_
    match a with
    | ⟨0, _⟩ => show b.val = off 0 + 1 * 0; omega
    | ⟨1, _⟩ => show d.val = off 1 + 1 * d.val; omega
    | ⟨2, _⟩ => show n.val = off 2 + 1 * n.val; omega
  unfold bandAdd bandOf
  simp only [hx, hw]

/-- Four bands added one after another. -/
def four (x0 : Vec Ideal S4x1024x128 .f32) (x1 : Vec Ideal S4x128x250 .bf16) (k : ℕ) (hk : k < 16) (y : S4x2x256x1152.Idx) : EReal :=
  ∑ b : Fin 4, bandOf x0 x1 b (startOf (4 * k + b.val) (by omega)) y

/-- The zeroed accumulator reads zero everywhere. -/
theorem zeroed_apply {sp : Space} (v : View sig .tc sp S4x2x256x1152 .f32) (y : S4x2x256x1152.Idx) :
    v.read (Elt Ideal) (v.writes (Elt Ideal) v.junk (runA.sl.HS0_1 (F := Ideal))) y = 0 := by
  refine (View.read_writes_cons_hit_of_coords v _ _ _ [] (y : S4x2x256x1152.Idx) y fun a => ?_).trans ?_
  · match a with
    | ⟨0, _⟩ => show (y 0).val = 0 + 1 * (y 0).val; omega
    | ⟨1, _⟩ => show (y 1).val = 0 + 1 * (y 1).val; omega
    | ⟨2, _⟩ => show (y 2).val = 0 + 1 * (y 2).val; omega
    | ⟨3, _⟩ => show (y 3).val = 0 + 1 * (y 3).val; omega
  · exact Ideal.ofBits_zero_f32

/-- The place of the accumulator that a place of the output block is read from. -/
abbrev wide (z : S4x2x256x1088.Idx) : S4x2x256x1152.Idx :=
  ix4 (z 0) (z 1) (z 2) ⟨(z 3).val, by have h : (z 3).val < 1088 := (z 3).isLt; omega⟩

/-- The last store: the accumulator times the reciprocal of the overlap. -/
theorem pay3_apply (v : Vec Ideal S4x2x256x1088 .f32) (w : Vec Ideal S1x1088 .f32) (z : S4x2x256x1088.Idx) :
    k0_pay3 (F := Ideal) v w z = v z * Ideal.div 1 (w (ix2 0 (z 3))) := by
  unfold k0_pay3
  refine congrArg (v z * ·) ?_
  refine (broadcastTo_apply _ _ z (ix4 0 0 0 (z 3)) ?_).trans ?_
  · intro a
    match a with
    | ⟨0, _⟩ => rfl
    | ⟨1, _⟩ => rfl
    | ⟨2, _⟩ => rfl
    | ⟨3, _⟩ => rfl
  · refine (shapeCast_apply _ Facts₀.shapeCasts_S1x1088_S1x1x1x1088 _ (ix2 0 (z 3)) ?_).trans ?_
    · refine (Shape.rowMajor_val_two _).trans ((Shape.rowMajor_val_four _).trans ?_).symm
      show ((0 * 1 + 0) * 1 + 0) * 1088 + (z 3).val = 0 * 1088 + (z 3).val
      rfl
    · refine congrArg₂ Ideal.div Ideal.ofBits_one_f32 ?_
      exact shapeCast_apply _ Facts₀.shapeCasts_S1x1088_S1x1088 _ _ rfl

section Runs
variable (m : (ℓ : Loc nD τ sig) → Buf (Elt Ideal) ℓ)
variable (c : Dev nD) (i : grid0.Coords) (arg2 : Memref sig .tc .vmem S4x1024x128 .f32) (harg2 : arg2.IsWhole) (arg3 : Memref sig .tc .vmem S4x128x250 .bf16) (harg3 : arg3.IsWhole) (arg4 : Memref sig .tc .vmem S1x1088 .f32) (harg4 : arg4.IsWhole) (arg5 : Memref sig .tc .vmem S4x2x256x1088 .f32) (harg5 : arg5.IsWhole) (arg6 : Memref sig .tc .vmem S4x2x256x1152 .f32) (harg6 : arg6.IsWhole)
    (x0 : Vec Ideal S4x1024x128 .f32) (x1 : Vec Ideal S4x128x250 .bf16) (x2 : Vec Ideal S1x1088 .f32) (xs0 : Vec Ideal S4x2x256x1152 .f32)

theorem startOf_eq (k b : ℕ) (h : 4 * k + b < 64) (wd r : BitVec 32) (hw : wd = lit0 ⟨0 + (4 * k + b), by omega⟩) (hr : r = lit0 ⟨64 + (4 * k + b), by omega⟩) :
    wd.toNat ≤ 7 ∧ r.toNat ≤ 131 ∧ 128 * wd.toNat + r.toNat = startOf (4 * k + b) h := by
  subst hw; subst hr
  exact ⟨win_le ⟨4 * k + b, h⟩, rot_le ⟨4 * k + b, h⟩, rfl⟩

set_option maxHeartbeats 1000000 in
/-- A middle point. -/
theorem runB_apply (hc0 : ¬isFirst i) (hc1 : ¬isLast i) (xt0 : TbBuf (F := Ideal) c tbM) (h1 : ∀ v, v = word1 c i xt0 → k0_chk1 v) (h2 : ∀ v, v = word2 c i xt0 → k0_chk2 v) (h3 : ∀ v, v = word3 c i xt0 → k0_chk3 v) (h4 : ∀ v, v = word4 c i xt0 → k0_chk4 v)
    (a1 : BitVec.toNat (word1 c i xt0) ≤ 7) (b1 : BitVec.toNat (rot1 c i xt0) ≤ 131) (e1 : 128 * BitVec.toNat (word1 c i xt0) + BitVec.toNat (rot1 c i xt0) = startOf (4 * (i 0).val + 0) (by have := coord_lt i; omega))
    (a2 : BitVec.toNat (word2 c i xt0) ≤ 7) (b2 : BitVec.toNat (rot2 c i xt0) ≤ 131) (e2 : 128 * BitVec.toNat (word2 c i xt0) + BitVec.toNat (rot2 c i xt0) = startOf (4 * (i 0).val + 1) (by have := coord_lt i; omega))
    (a3 : BitVec.toNat (word3 c i xt0) ≤ 7) (b3 : BitVec.toNat (rot3 c i xt0) ≤ 131) (e3 : 128 * BitVec.toNat (word3 c i xt0) + BitVec.toNat (rot3 c i xt0) = startOf (4 * (i 0).val + 2) (by have := coord_lt i; omega))
    (a4 : BitVec.toNat (word4 c i xt0) ≤ 7) (b4 : BitVec.toNat (rot4 c i xt0) ≤ 131) (e4 : 128 * BitVec.toNat (word4 c i xt0) + BitVec.toNat (rot4 c i xt0) = startOf (4 * (i 0).val + 3) (by have := coord_lt i; omega))
    (y : S4x2x256x1152.Idx) :
    arg6.view.read (Elt Ideal) (arg6.view.writes (Elt Ideal) (harg6.unread xs0)
        (runB (F := Ideal) c i arg2 harg2 arg3 harg3 arg4 harg4 arg5 harg5 arg6 harg6 hc0 hc1 x0 x1 x2 xt0 xs0 h1 h2 h3 h4).1) y
      = xs0 y + four x0 x1 (i 0).val (coord_lt i) y := by
  refine (band_step arg6.view (harg6.unread xs0) _ (word4 c i xt0) (rot4 c i xt0) a4 b4 _ _ (memX arg2 harg2 x0 ![3, 0, 0] Facts₀.inb_S4x1024x128_S1x1024x128_3_0_0) (memW arg3 harg3 x1 ![3, 0, 0] Facts₀.inb_S4x128x250_S1x128x250_3_0_0) _ rfl _ rfl y).trans ?_
  refine (congrArg (· + _) (band_step arg6.view (harg6.unread xs0) _ (word3 c i xt0) (rot3 c i xt0) a3 b3 _ _ (memX arg2 harg2 x0 ![2, 0, 0] Facts₀.inb_S4x1024x128_S1x1024x128_2_0_0) (memW arg3 harg3 x1 ![2, 0, 0] Facts₀.inb_S4x128x250_S1x128x250_2_0_0) _ rfl _ rfl y)).trans ?_
  refine (congrArg (fun z => z + _ + _) (band_step arg6.view (harg6.unread xs0) _ (word2 c i xt0) (rot2 c i xt0) a2 b2 _ _ (memX arg2 harg2 x0 ![1, 0, 0] Facts₀.inb_S4x1024x128_S1x1024x128_1_0_0) (memW arg3 harg3 x1 ![1, 0, 0] Facts₀.inb_S4x128x250_S1x128x250_1_0_0) _ rfl _ rfl y)).trans ?_
  refine (congrArg (fun z => z + _ + _ + _) (band_step arg6.view (harg6.unread xs0) [] (word1 c i xt0) (rot1 c i xt0) a1 b1 _ _ (memX arg2 harg2 x0 ![0, 0, 0] Facts₀.inb_S4x1024x128_S1x1024x128_0_0_0) (memW arg3 harg3 x1 ![0, 0, 0] Facts₀.inb_S4x128x250_S1x128x250_0_0_0) _ rfl _ rfl y)).trans ?_
  rw [bandAdd_mem _ _ _ _ x0 x1 0 _ rfl rfl rfl, bandAdd_mem _ _ _ _ x0 x1 1 _ rfl rfl rfl, bandAdd_mem _ _ _ _ x0 x1 2 _ rfl rfl rfl,
    bandAdd_mem _ _ _ _ x0 x1 3 _ rfl rfl rfl, e1, e2, e3, e4]
  unfold four
  rw [Fin.sum_univ_four, ← add_assoc, ← add_assoc, ← add_assoc]
  exact congrArg (fun z => z + _ + _ + _ + _) (congrFun (harg6.read_unread (Val := Elt Ideal) xs0) y)
set_option maxHeartbeats 1000000 in
/-- The first point: the accumulator was zeroed before. -/
theorem runA_apply (hc0 : isFirst i) (hc1 : ¬isLast i) (xt0 : TbBuf (F := Ideal) c tbM) (h1 : ∀ v, v = word1 c i xt0 → k0_chk1 v) (h2 : ∀ v, v = word2 c i xt0 → k0_chk2 v) (h3 : ∀ v, v = word3 c i xt0 → k0_chk3 v) (h4 : ∀ v, v = word4 c i xt0 → k0_chk4 v)
    (a1 : BitVec.toNat (word1 c i xt0) ≤ 7) (b1 : BitVec.toNat (rot1 c i xt0) ≤ 131) (e1 : 128 * BitVec.toNat (word1 c i xt0) + BitVec.toNat (rot1 c i xt0) = startOf (4 * (i 0).val + 0) (by have := coord_lt i; omega))
    (a2 : BitVec.toNat (word2 c i xt0) ≤ 7) (b2 : BitVec.toNat (rot2 c i xt0) ≤ 131) (e2 : 128 * BitVec.toNat (word2 c i xt0) + BitVec.toNat (rot2 c i xt0) = startOf (4 * (i 0).val + 1) (by have := coord_lt i; omega))
    (a3 : BitVec.toNat (word3 c i xt0) ≤ 7) (b3 : BitVec.toNat (rot3 c i xt0) ≤ 131) (e3 : 128 * BitVec.toNat (word3 c i xt0) + BitVec.toNat (rot3 c i xt0) = startOf (4 * (i 0).val + 2) (by have := coord_lt i; omega))
    (a4 : BitVec.toNat (word4 c i xt0) ≤ 7) (b4 : BitVec.toNat (rot4 c i xt0) ≤ 131) (e4 : 128 * BitVec.toNat (word4 c i xt0) + BitVec.toNat (rot4 c i xt0) = startOf (4 * (i 0).val + 3) (by have := coord_lt i; omega))
    (y : S4x2x256x1152.Idx) :
    arg6.view.read (Elt Ideal) (arg6.view.writes (Elt Ideal) arg6.view.junk
        (runA (F := Ideal) c i arg2 harg2 arg3 harg3 arg4 harg4 arg5 harg5 arg6 harg6 hc0 hc1 x0 x1 x2 xt0 h1 h2 h3 h4).1) y
      = 0 + four x0 x1 (i 0).val (coord_lt i) y := by
  refine (band_step arg6.view arg6.view.junk _ (word4 c i xt0) (rot4 c i xt0) a4 b4 _ _ (memX arg2 harg2 x0 ![3, 0, 0] Facts₀.inb_S4x1024x128_S1x1024x128_3_0_0) (memW arg3 harg3 x1 ![3, 0, 0] Facts₀.inb_S4x128x250_S1x128x250_3_0_0) _ rfl _ rfl y).trans ?_
  refine (congrArg (· + _) (band_step arg6.view arg6.view.junk _ (word3 c i xt0) (rot3 c i xt0) a3 b3 _ _ (memX arg2 harg2 x0 ![2, 0, 0] Facts₀.inb_S4x1024x128_S1x1024x128_2_0_0) (memW arg3 harg3 x1 ![2, 0, 0] Facts₀.inb_S4x128x250_S1x128x250_2_0_0) _ rfl _ rfl y)).trans ?_
  refine (congrArg (fun z => z + _ + _) (band_step arg6.view arg6.view.junk _ (word2 c i xt0) (rot2 c i xt0) a2 b2 _ _ (memX arg2 harg2 x0 ![1, 0, 0] Facts₀.inb_S4x1024x128_S1x1024x128_1_0_0) (memW arg3 harg3 x1 ![1, 0, 0] Facts₀.inb_S4x128x250_S1x128x250_1_0_0) _ rfl _ rfl y)).trans ?_
  refine (congrArg (fun z => z + _ + _ + _) (band_step arg6.view arg6.view.junk runA.sl.HS0_1 (word1 c i xt0) (rot1 c i xt0) a1 b1 _ _ (memX arg2 harg2 x0 ![0, 0, 0] Facts₀.inb_S4x1024x128_S1x1024x128_0_0_0) (memW arg3 harg3 x1 ![0, 0, 0] Facts₀.inb_S4x128x250_S1x128x250_0_0_0) _ rfl _ rfl y)).trans ?_
  rw [bandAdd_mem _ _ _ _ x0 x1 0 _ rfl rfl rfl, bandAdd_mem _ _ _ _ x0 x1 1 _ rfl rfl rfl, bandAdd_mem _ _ _ _ x0 x1 2 _ rfl rfl rfl,
    bandAdd_mem _ _ _ _ x0 x1 3 _ rfl rfl rfl, e1, e2, e3, e4]
  unfold four
  rw [Fin.sum_univ_four, ← add_assoc, ← add_assoc, ← add_assoc]
  exact congrArg (fun z => z + _ + _ + _ + _) (zeroed_apply arg6.view y)

set_option maxHeartbeats 1000000 in
/-- The last point, on the accumulator. -/
theorem runC_apply (hc0 : ¬isFirst i) (hc1 : isLast i) (xt0 : TbBuf (F := Ideal) c tbM) (h1 : ∀ v, v = word1 c i xt0 → k0_chk1 v) (h2 : ∀ v, v = word2 c i xt0 → k0_chk2 v) (h3 : ∀ v, v = word3 c i xt0 → k0_chk3 v) (h4 : ∀ v, v = word4 c i xt0 → k0_chk4 v)
    (a1 : BitVec.toNat (word1 c i xt0) ≤ 7) (b1 : BitVec.toNat (rot1 c i xt0) ≤ 131) (e1 : 128 * BitVec.toNat (word1 c i xt0) + BitVec.toNat (rot1 c i xt0) = startOf (4 * (i 0).val + 0) (by have := coord_lt i; omega))
    (a2 : BitVec.toNat (word2 c i xt0) ≤ 7) (b2 : BitVec.toNat (rot2 c i xt0) ≤ 131) (e2 : 128 * BitVec.toNat (word2 c i xt0) + BitVec.toNat (rot2 c i xt0) = startOf (4 * (i 0).val + 1) (by have := coord_lt i; omega))
    (a3 : BitVec.toNat (word3 c i xt0) ≤ 7) (b3 : BitVec.toNat (rot3 c i xt0) ≤ 131) (e3 : 128 * BitVec.toNat (word3 c i xt0) + BitVec.toNat (rot3 c i xt0) = startOf (4 * (i 0).val + 2) (by have := coord_lt i; omega))
    (a4 : BitVec.toNat (word4 c i xt0) ≤ 7) (b4 : BitVec.toNat (rot4 c i xt0) ≤ 131) (e4 : 128 * BitVec.toNat (word4 c i xt0) + BitVec.toNat (rot4 c i xt0) = startOf (4 * (i 0).val + 3) (by have := coord_lt i; omega))
    (y : S4x2x256x1152.Idx) :
    arg6.view.read (Elt Ideal) (arg6.view.writes (Elt Ideal) (harg6.unread xs0)
        (runC (F := Ideal) c i arg2 harg2 arg3 harg3 arg4 harg4 arg5 harg5 arg6 harg6 hc0 hc1 x0 x1 x2 xt0 xs0 h1 h2 h3 h4).1.1) y
      = xs0 y + four x0 x1 (i 0).val (coord_lt i) y := by
  refine (band_step arg6.view (harg6.unread xs0) _ (word4 c i xt0) (rot4 c i xt0) a4 b4 _ _ (memX arg2 harg2 x0 ![3, 0, 0] Facts₀.inb_S4x1024x128_S1x1024x128_3_0_0) (memW arg3 harg3 x1 ![3, 0, 0] Facts₀.inb_S4x128x250_S1x128x250_3_0_0) _ rfl _ rfl y).trans ?_
  refine (congrArg (· + _) (band_step arg6.view (harg6.unread xs0) _ (word3 c i xt0) (rot3 c i xt0) a3 b3 _ _ (memX arg2 harg2 x0 ![2, 0, 0] Facts₀.inb_S4x1024x128_S1x1024x128_2_0_0) (memW arg3 harg3 x1 ![2, 0, 0] Facts₀.inb_S4x128x250_S1x128x250_2_0_0) _ rfl _ rfl y)).trans ?_
  refine (congrArg (fun z => z + _ + _) (band_step arg6.view (harg6.unread xs0) _ (word2 c i xt0) (rot2 c i xt0) a2 b2 _ _ (memX arg2 harg2 x0 ![1, 0, 0] Facts₀.inb_S4x1024x128_S1x1024x128_1_0_0) (memW arg3 harg3 x1 ![1, 0, 0] Facts₀.inb_S4x128x250_S1x128x250_1_0_0) _ rfl _ rfl y)).trans ?_
  refine (congrArg (fun z => z + _ + _ + _) (band_step arg6.view (harg6.unread xs0) [] (word1 c i xt0) (rot1 c i xt0) a1 b1 _ _ (memX arg2 harg2 x0 ![0, 0, 0] Facts₀.inb_S4x1024x128_S1x1024x128_0_0_0) (memW arg3 harg3 x1 ![0, 0, 0] Facts₀.inb_S4x128x250_S1x128x250_0_0_0) _ rfl _ rfl y)).trans ?_
  rw [bandAdd_mem _ _ _ _ x0 x1 0 _ rfl rfl rfl, bandAdd_mem _ _ _ _ x0 x1 1 _ rfl rfl rfl, bandAdd_mem _ _ _ _ x0 x1 2 _ rfl rfl rfl,
    bandAdd_mem _ _ _ _ x0 x1 3 _ rfl rfl rfl, e1, e2, e3, e4]
  unfold four
  rw [Fin.sum_univ_four, ← add_assoc, ← add_assoc, ← add_assoc]
  exact congrArg (fun z => z + _ + _ + _ + _) (congrFun (harg6.read_unread (Val := Elt Ideal) xs0) y)

/-- The last point, on the output staging memref. -/
theorem runC_out_apply (hc0 : ¬isFirst i) (hc1 : isLast i) (xt0 : TbBuf (F := Ideal) c tbM) (h1 : ∀ v, v = word1 c i xt0 → k0_chk1 v) (h2 : ∀ v, v = word2 c i xt0 → k0_chk2 v) (h3 : ∀ v, v = word3 c i xt0 → k0_chk3 v) (h4 : ∀ v, v = word4 c i xt0 → k0_chk4 v)
    (z : S4x2x256x1088.Idx) :
    arg5.view.read (Elt Ideal) (arg5.view.writes (Elt Ideal) arg5.view.junk (runC (F := Ideal) c i arg2 harg2 arg3 harg3 arg4 harg4 arg5 harg5 arg6 harg6 hc0 hc1 x0 x1 x2 xt0 xs0 h1 h2 h3 h4).1.2) z
      = arg6.view.read (Elt Ideal) (arg6.view.writes (Elt Ideal) (harg6.unread xs0) (runC (F := Ideal) c i arg2 harg2 arg3 harg3 arg4 harg4 arg5 harg5 arg6 harg6 hc0 hc1 x0 x1 x2 xt0 xs0 h1 h2 h3 h4).1.1) (wide z)
        * Ideal.div 1 (x2 (ix2 0 (z 3))) := by
  refine (View.read_writes_cons_hit_of_coords arg5.view _ _ _ [] (z : S4x2x256x1088.Idx) z fun a => ?_).trans ?_
  · match a with
    | ⟨0, _⟩ => show (z 0).val = 0 + 1 * (z 0).val; omega
    | ⟨1, _⟩ => show (z 1).val = 0 + 1 * (z 1).val; omega
    | ⟨2, _⟩ => show (z 2).val = 0 + 1 * (z 2).val; omega
    | ⟨3, _⟩ => show (z 3).val = 0 + 1 * (z 3).val; omega
  · refine (pay3_apply _ _ z).trans (congrArg₂ (· * ·) ?_ (congrArg (Ideal.div 1) ?_))
    · refine congrArg (arg6.view.read (Elt Ideal) _) (Rect.emb_eq_of_coords _ _ _ fun a => ?_)
      match a with
      | ⟨0, _⟩ => show (z 0).val = 0 + 1 * (z 0).val; omega
      | ⟨1, _⟩ => show (z 1).val = 0 + 1 * (z 1).val; omega
      | ⟨2, _⟩ => show (z 2).val = 0 + 1 * (z 2).val; omega
      | ⟨3, _⟩ => show (z 3).val = 0 + 1 * (z 3).val; omega
    · refine (congrFun (harg4.read_unread (Val := Elt Ideal) x2) _).trans (congrArg x2 ?_)
      refine Rect.emb_eq_of_coords _ _ _ fun a => ?_
      match a with
      | ⟨0, _⟩ => show 0 = 0 + 1 * 0; rfl
      | ⟨1, _⟩ => show (z 3).val = 0 + 1 * (z 3).val; omega

end Runs

end Cert.KernelIdeal.Band

end
-- ==== Proof.Band.Total.lean ====
module

public import proofs.«01_k».proof.Proof.Band.Point

/-!
The accumulator after the last grid point, and the output block: the sum of what the 64 bands add, over extended reals.
-/

@[expose] public section

set_option maxRecDepth 16384

noncomputable section

namespace Cert.KernelIdeal.Band

open Cert.KernelIdeal.Gen
open Idealize.ShloMosaic Idealize.ShloMosaic.TcCoe Idealize.ShloMosaic.ValueIdx

variable (m : (ℓ : Loc nD τ sig) → Buf (Elt Ideal) ℓ)

theorem coord_val (t : Fin grid0.N) : (grid0.coords t 0).val = t.val := by
  have ht : t.val < 16 := Nat.lt_of_lt_of_eq t.isLt N_0
  have e0 : (grid0.coords t 0).val = t.val / 1 % 16 := Pipeline.Grid.coords_val t 0 (by decide) rfl
  rw [e0]; omega

theorem four_congr (x0 : Vec Ideal S4x1024x128 .f32) (x1 : Vec Ideal S4x128x250 .bf16) {k k' : ℕ} (hk : k < 16) (hk' : k' < 16) (e : k = k')
    (y : S4x2x256x1152.Idx) : four x0 x1 k hk y = four x0 x1 k' hk' y := by
  subst e; rfl

/-- What grid point `t` adds. -/
abbrev ptAdd (c : Dev nD) (t : Fin (cfgM m).N) (y : S4x2x256x1152.Idx) : EReal :=
  four (iblk m c 0 t) (iblk m c 1 t) t.val (lt16 m t) y

section
variable (c : Dev nD) (t : Fin (cfgM m).N)

/-- The table's word and rotation for each of a point's bands, with the bounds they meet. -/
theorem facts1 : BitVec.toNat (word1 c (grid0.coords t) (tbl m 0)) ≤ 7 ∧ BitVec.toNat (rot1 c (grid0.coords t) (tbl m 0)) ≤ 131
    ∧ 128 * BitVec.toNat (word1 c (grid0.coords t) (tbl m 0)) + BitVec.toNat (rot1 c (grid0.coords t) (tbl m 0))
      = startOf (4 * (grid0.coords t 0).val + 0) (by have := coord_lt (grid0.coords t); omega) :=
  startOf_eq (grid0.coords t 0).val 0 (by have := coord_lt (grid0.coords t); omega) _ _ (word1_eq m c (grid0.coords t)) (rot1_eq m c (grid0.coords t))
theorem facts2 : BitVec.toNat (word2 c (grid0.coords t) (tbl m 0)) ≤ 7 ∧ BitVec.toNat (rot2 c (grid0.coords t) (tbl m 0)) ≤ 131
    ∧ 128 * BitVec.toNat (word2 c (grid0.coords t) (tbl m 0)) + BitVec.toNat (rot2 c (grid0.coords t) (tbl m 0))
      = startOf (4 * (grid0.coords t 0).val + 1) (by have := coord_lt (grid0.coords t); omega) :=
  startOf_eq (grid0.coords t 0).val 1 (by have := coord_lt (grid0.coords t); omega) _ _ (word2_eq m c (grid0.coords t)) (rot2_eq m c (grid0.coords t))
theorem facts3 : BitVec.toNat (word3 c (grid0.coords t) (tbl m 0)) ≤ 7 ∧ BitVec.toNat (rot3 c (grid0.coords t) (tbl m 0)) ≤ 131
    ∧ 128 * BitVec.toNat (word3 c (grid0.coords t) (tbl m 0)) + BitVec.toNat (rot3 c (grid0.coords t) (tbl m 0))
      = startOf (4 * (grid0.coords t 0).val + 2) (by have := coord_lt (grid0.coords t); omega) :=
  startOf_eq (grid0.coords t 0).val 2 (by have := coord_lt (grid0.coords t); omega) _ _ (word3_eq m c (grid0.coords t)) (rot3_eq m c (grid0.coords t))
theorem facts4 : BitVec.toNat (word4 c (grid0.coords t) (tbl m 0)) ≤ 7 ∧ BitVec.toNat (rot4 c (grid0.coords t) (tbl m 0)) ≤ 131
    ∧ 128 * BitVec.toNat (word4 c (grid0.coords t) (tbl m 0)) + BitVec.toNat (rot4 c (grid0.coords t) (tbl m 0))
      = startOf (4 * (grid0.coords t 0).val + 3) (by have := coord_lt (grid0.coords t); omega) :=
  startOf_eq (grid0.coords t 0).val 3 (by have := coord_lt (grid0.coords t); omega) _ _ (word4_eq m c (grid0.coords t)) (rot4_eq m c (grid0.coords t))

theorem accA_apply (h0 : t.val = 0) (y : S4x2x256x1152.Idx) : accA m c t h0 y = 0 + ptAdd m c t y := by
  obtain ⟨a1, b1, e1⟩ := facts1 m c t; obtain ⟨a2, b2, e2⟩ := facts2 m c t
  obtain ⟨a3, b3, e3⟩ := facts3 m c t; obtain ⟨a4, b4, e4⟩ := facts4 m c t
  refine (runA_apply c _ _ _ _ _ _ _ _ _ accM haccM _ _ _ _ _ (tbl m 0) _ _ _ _ a1 b1 e1 a2 b2 e2 a3 b3 e3 a4 b4 e4 y).trans ?_
  exact congrArg (0 + ·) (four_congr _ _ _ _ (coord_val t) y)

theorem accB_apply (h0 : t.val ≠ 0) (h1 : t.val ≠ 15) (xs : Vec Ideal S4x2x256x1152 .f32) (y : S4x2x256x1152.Idx) :
    accB m c t h0 h1 xs y = xs y + ptAdd m c t y := by
  obtain ⟨a1, b1, e1⟩ := facts1 m c t; obtain ⟨a2, b2, e2⟩ := facts2 m c t
  obtain ⟨a3, b3, e3⟩ := facts3 m c t; obtain ⟨a4, b4, e4⟩ := facts4 m c t
  refine (runB_apply c _ _ _ _ _ _ _ _ _ accM haccM _ _ _ xs _ _ (tbl m 0) _ _ _ _ a1 b1 e1 a2 b2 e2 a3 b3 e3 a4 b4 e4 y).trans ?_
  exact congrArg (xs y + ·) (four_congr _ _ _ _ (coord_val t) y)

theorem accC_apply (h1 : t.val = 15) (xs : Vec Ideal S4x2x256x1152 .f32) (y : S4x2x256x1152.Idx) :
    accC m c t h1 xs y = xs y + ptAdd m c t y := by
  obtain ⟨a1, b1, e1⟩ := facts1 m c t; obtain ⟨a2, b2, e2⟩ := facts2 m c t
  obtain ⟨a3, b3, e3⟩ := facts3 m c t; obtain ⟨a4, b4, e4⟩ := facts4 m c t
  refine (runC_apply c _ _ _ _ _ _ _ _ _ accM haccM _ _ _ xs _ _ (tbl m 0) _ _ _ _ a1 b1 e1 a2 b2 e2 a3 b3 e3 a4 b4 e4 y).trans ?_
  exact congrArg (xs y + ·) (four_congr _ _ _ _ (coord_val t) y)

theorem outC_apply (h1 : t.val = 15) (xs : Vec Ideal S4x2x256x1152 .f32) (z : S4x2x256x1088.Idx) :
    outC m c t h1 xs z = accC m c t h1 xs (wide z) * Ideal.div 1 (iblk m c 2 t (ix2 0 (z 3))) :=
  runC_out_apply c _ _ _ _ _ _ _ _ _ accM haccM _ _ _ xs _ _ (tbl m 0) _ _ _ _ z

end

/-- The accumulator after point `n` is the sum of what the points up to it add. -/
theorem accAt_apply (c : Dev nD) (y : S4x2x256x1152.Idx) : ∀ (n : ℕ) (hn : n < (cfgM m).N),
    accAt m c n hn y = ∑ k : Fin (n + 1), ptAdd m c ⟨k.val, Nat.lt_of_lt_of_le k.isLt hn⟩ y
  | 0, hn => by
    refine (congrFun (accAt_A m c ⟨0, hn⟩ rfl) y).trans ((accA_apply m c ⟨0, hn⟩ rfl y).trans ?_)
    rw [zero_add, Fin.sum_univ_one]; rfl
  | n + 1, hn => by
    rw [Fin.sum_univ_castSucc]
    have ih := accAt_apply c y n (Nat.lt_of_succ_lt hn)
    by_cases h1 : n + 1 = 15
    · refine (congrFun (accAt_C m c ⟨n + 1, hn⟩ h1) y).trans ((accC_apply m c ⟨n + 1, hn⟩ h1 _ y).trans ?_)
      exact congrArg (· + _) ih
    · refine (congrFun (accAt_B m c ⟨n + 1, hn⟩ (Nat.succ_ne_zero n) h1) y).trans ((accB_apply m c ⟨n + 1, hn⟩ (Nat.succ_ne_zero n) h1 _ y).trans ?_)
      exact congrArg (· + _) ih

theorem accAt_last (c : Dev nD) (y : S4x2x256x1152.Idx) (t : Fin (cfgM m).N) (h1 : t.val = 15) :
    accAt m c t.val t.isLt y = ∑ k : Fin 16, ptAdd m c ⟨k.val, Nat.lt_of_lt_of_eq k.isLt (N_eq m).symm⟩ y := by
  obtain ⟨n, hn⟩ := t
  obtain rfl : n = 15 := h1
  exact accAt_apply m c y 15 hn

theorem outAt_last (c : Dev nD) (z : S4x2x256x1088.Idx) (t : Fin (cfgM m).N) (h1 : t.val = 15) :
    outAt m c t z = accAt m c t.val t.isLt (wide z) * Ideal.div 1 (iblk m c 2 t (ix2 0 (z 3))) := by
  rw [accAt_C m c t h1, outAt_C m c t h1]
  exact outC_apply m c t h1 _ z

/-- The output block the last point leaves. -/
theorem outAt_apply (c : Dev nD) (z : S4x2x256x1088.Idx) :
    outAt m c (tLast m) z
      = (∑ k : Fin 16, ptAdd m c ⟨k.val, Nat.lt_of_lt_of_eq k.isLt (N_eq m).symm⟩ (wide z)) * Ideal.div 1 (iblk m c 2 (tLast m) (ix2 0 (z 3))) := by
  rw [outAt_last m c z (tLast m) rfl, accAt_last m c (wide z) (tLast m) rfl]

end Cert.KernelIdeal.Band

end
-- ==== Proof.Band.Blocks.lean ====
module

public import proofs.«01_k».proof.Proof.Band.Total

/-!
The blocks a grid point is given, in the program's arguments: the transposed input, the weights scaled by the filter bank, and the
overlap window.
-/

@[expose] public section

set_option maxRecDepth 16384

noncomputable section

namespace Cert.KernelIdeal.Band

open Cert.KernelIdeal.Gen
open Idealize.ShloMosaic Idealize.ShloMosaic.TcCoe Idealize.ShloMosaic.ValueIdx

variable (m : (ℓ : Loc nD τ sig) → Buf (Elt Ideal) ℓ)

/-- The arguments, as core `c` is launched with them. -/
abbrev argX (c : Dev nD) : FVec Ideal S4x128x256x64 .f32 := m ((c : Thread nD τ).loc main_arg0)
abbrev argW (c : Dev nD) : FVec Ideal S64x128x2x125 .f32 := m ((c : Thread nD τ).loc main_arg1)
abbrev argMel (c : Dev nD) : FVec Ideal S64x125 .f32 := m ((c : Thread nD τ).loc main_arg3)
abbrev argOla (c : Dev nD) : FVec Ideal S1025 .f32 := m ((c : Thread nD τ).loc main_arg4)

/-! ## The arrays the region finds -/

theorem V_x (c : Dev nD) : V m c main_call0_v1
    = shapeCast S64x1024x128 (transpose S64x4x256x128 [3, 0, 2, 1] (argX m c) Facts₀.transposes_S4x128x256x64_S64x4x256x128_3_0_2_1) Facts₀.shapeCasts_S64x4x256x128_S64x1024x128 := by
  unfold V V0
  simp only [List.flatten_cons, List.flatten_nil, List.append_nil]
  after_reads_simp
  rfl

/-- Narrowing changes nothing over extended reals. -/
theorem V_w (c : Dev nD) : (V m c main_call0_v6 : S64x128x250.Idx → EReal)
    = shapeCast S64x128x250 (mulf (argW m c) (broadcastInDim S64x128x2x125 ![0, 1, 2, 3] Facts₀.bcast_S64x1x1x125_S64x128x2x125_0_1_2_3
        (broadcastInDim S64x1x1x125 ![0, 3] Facts₀.bcast_S64x125_S64x1x1x125_0_3 (argMel m c)))) Facts₀.shapeCasts_S64x128x2x125_S64x128x250 := by
  unfold V V0
  simp only [List.flatten_cons, List.flatten_nil, List.append_nil]
  after_reads_simp
  rfl

theorem V_ola (c : Dev nD) : V m c main_call0_v8
    = broadcastInDim S1x1088 ![1] Facts₀.bcast_S1088_S1x1088_1
        (pad S1088 ![0] ![63] ![0] (argOla m c) (constant S_ .f32 0x3F800000#32 : FVec Ideal S_ .f32) Facts₀.pads_S1025_S1088_0630 Facts₀.h_S_) := by
  unfold V V0
  simp only [List.flatten_cons, List.flatten_nil, List.append_nil]
  after_reads_simp
  rfl

/-! ## The blocks -/

theorem iblk0_apply (c : Dev nD) (t : Fin (cfgM m).N) (b : Fin 4) (row : Fin 1024) (d : Fin 128) :
    iblk m c 0 t (ix3 b row d) = V m c main_call0_v1 (ix3 ⟨4 * t.val + b.val, by have := lt16 m t; omega⟩ row d) := by
  refine congrArg (V m c main_call0_v1) (funext fun a => Fin.ext ?_)
  match a with
  | ⟨0, _⟩ =>
    have ht := lt16 m t
    show (BitVec.ofNat 32 (grid0.coords t 0).val).toNat * 4 + 1 * b.val = 4 * t.val + b.val
    rw [coord_val t, BitVec.toNat_ofNat]; omega
  | ⟨1, _⟩ => show 0 * 1024 + 1 * row.val = row.val; omega
  | ⟨2, _⟩ => show 0 * 128 + 1 * d.val = d.val; omega

theorem iblk1_apply (c : Dev nD) (t : Fin (cfgM m).N) (b : Fin 4) (d : Fin 128) (n : Fin 250) :
    iblk m c 1 t (ix3 b d n) = V m c main_call0_v6 (ix3 ⟨4 * t.val + b.val, by have := lt16 m t; omega⟩ d n) := by
  refine congrArg (V m c main_call0_v6) (funext fun a => Fin.ext ?_)
  match a with
  | ⟨0, _⟩ =>
    have ht := lt16 m t
    show (BitVec.ofNat 32 (grid0.coords t 0).val).toNat * 4 + 1 * b.val = 4 * t.val + b.val
    rw [coord_val t, BitVec.toNat_ofNat]; omega
  | ⟨1, _⟩ => show 0 * 128 + 1 * d.val = d.val; omega
  | ⟨2, _⟩ => show 0 * 250 + 1 * n.val = n.val; omega

theorem iblk2_apply (c : Dev nD) (t : Fin (cfgM m).N) (n : Fin 1088) :
    iblk m c 2 t (ix2 0 n) = V m c main_call0_v8 (ix2 0 n) := by
  refine congrArg (V m c main_call0_v8) (funext fun a => Fin.ext ?_)
  match a with
  | ⟨0, _⟩ => rfl
  | ⟨1, _⟩ => show 0 * 1088 + 1 * n.val = n.val; omega

/-! ## In the arguments -/

/-- The transposed input: row `b * 256 + t` of band `k`. -/
theorem x_apply (c : Dev nD) (k : Fin 64) (b : Fin 4) (t : Fin 256) (d : Fin 128) :
    V m c main_call0_v1 (ix3 k ⟨b.val * 256 + t.val, by omega⟩ d) = argX m c (ix4 b d t k) := by
  rw [V_x]
  refine (shapeCast_apply _ Facts₀.shapeCasts_S64x4x256x128_S64x1024x128 _ (ix4 k b t d) ?_).trans ?_
  · refine (Shape.rowMajor_val_four _).trans ((Shape.rowMajor_val_three _).trans ?_).symm
    show (k.val * 1024 + (b.val * 256 + t.val)) * 128 + d.val = ((k.val * 4 + b.val) * 256 + t.val) * 128 + d.val
    omega
  · refine congrArg (argX m c) (funext fun a => ?_)
    match a with
    | ⟨0, _⟩ => rfl
    | ⟨1, _⟩ => rfl
    | ⟨2, _⟩ => rfl
    | ⟨3, _⟩ => rfl

/-- The scaled weights: column `125 * ch + j` of band `k`. -/
theorem w_apply (c : Dev nD) (k : Fin 64) (d : Fin 128) (ch : Fin 2) (j : Fin 125) :
    V m c main_call0_v6 (ix3 k d ⟨125 * ch.val + j.val, by omega⟩) = argW m c (ix4 k d ch j) * argMel m c (ix2 k j) := by
  refine (congrFun (V_w m c) _).trans ?_
  refine (shapeCast_apply _ Facts₀.shapeCasts_S64x128x2x125_S64x128x250 _ (ix4 k d ch j) ?_).trans ?_
  · refine (Shape.rowMajor_val_four _).trans ((Shape.rowMajor_val_three _).trans ?_).symm
    show (k.val * 128 + d.val) * 250 + (125 * ch.val + j.val) = ((k.val * 128 + d.val) * 2 + ch.val) * 125 + j.val
    omega
  · refine congrArg (argW m c (ix4 k d ch j) * ·) ?_
    refine (broadcastInDim_apply _ _ _ _ (ix4 k 0 0 j) ?_).trans (broadcastInDim_apply _ _ _ _ (ix2 k j) ?_)
    · intro a
      match a with
      | ⟨0, _⟩ => rfl
      | ⟨1, _⟩ => rfl
      | ⟨2, _⟩ => rfl
      | ⟨3, _⟩ => rfl
    · intro a
      match a with
      | ⟨0, _⟩ => rfl
      | ⟨1, _⟩ => rfl

/-- The overlap window, where it is not padding. -/
theorem ola_apply (c : Dev nD) (n : Fin 1025) :
    V m c main_call0_v8 (ix2 0 ⟨n.val, by omega⟩) = argOla m c (ix1 n) := by
  rw [V_ola]
  refine (broadcastInDim_apply _ _ _ _ (ix1 ⟨n.val, by omega⟩) ?_).trans ?_
  · intro a
    match a with
    | ⟨0, _⟩ => rfl
  · refine pad_apply_of_inside _ _ _ _ _ _ _ _ (ix1 n) ?_
    intro a
    match a with
    | ⟨0, _⟩ => show n.val = 0 + n.val * (0 + 1); omega

end Cert.KernelIdeal.Band

end
-- ==== Proof.Spec.lean ====
module

public import Idealize.ShloMosaic.PureOps.Ideal.Laws
public import Idealize.ShloMosaic.Lib.ValueIdxCore
public import Mathlib.Data.EReal.Operations
public import Mathlib.Data.EReal.Inv

/-!
What both programs compute, over extended reals: at batch row `b`, channel `ch`, frame `t` and bin `p`, the sum over the bands whose
bins reach `p` of the band's projection there times its filter weight, over the overlap window at `p`.
-/

@[expose] public section

noncomputable section

namespace Cert.Spec

open Idealize.ShloMosaic Idealize.ShloMosaic.ValueIdx

variable (X : (⟨4, ![4, 128, 256, 64]⟩ : Shape).Idx → EReal) (W : (⟨4, ![64, 128, 2, 125]⟩ : Shape).Idx → EReal)
  (mel : (⟨2, ![64, 125]⟩ : Shape).Idx → EReal) (ola : (⟨1, ![1025]⟩ : Shape).Idx → EReal) (st : Fin 64 → ℕ)

/-- Band `n`'s part at its own bin `j`: the projection of the input, times the filter weight. -/
def part (n : Fin 64) (b : Fin 4) (ch : Fin 2) (t : Fin 256) (j : Fin 125) : EReal :=
  (∑ d : Fin 128, X (ix4 b d t n) * W (ix4 n d ch j)) * mel (ix2 n j)

/-- Band `n`'s part at bin `p` of the whole spectrum, when its first bin is `st n`. -/
def at_ (n : Fin 64) (b : Fin 4) (ch : Fin 2) (t : Fin 256) (p : Fin 1025) : EReal :=
  if h : st n ≤ p.val ∧ p.val < st n + 125 then part X W mel n b ch t ⟨p.val - st n, by omega⟩ else 0

/-- The result. -/
def whole (b : Fin 4) (ch : Fin 2) (t : Fin 256) (p : Fin 1025) : EReal :=
  (∑ n : Fin 64, at_ X W mel st n b ch t p) * (ola (ix1 p))⁻¹

/-- A nonnegative finite factor moves out of a sum. -/
theorem sum_mul_of_nonneg {ι : Type} (s : Finset ι) (f : ι → EReal) (c : EReal) (h0 : 0 ≤ c) (ht : c ≠ ⊤) :
    ∑ i ∈ s, f i * c = (∑ i ∈ s, f i) * c := by
  classical
  induction s using Finset.induction_on with
  | empty => simp
  | insert a s ha ih => rw [Finset.sum_insert ha, Finset.sum_insert ha, ih, EReal.right_distrib_of_nonneg_of_ne_top h0 ht]

/-- The part with the weights scaled before the projection. -/
theorem part_scaled (n : Fin 64) (b : Fin 4) (ch : Fin 2) (t : Fin 256) (j : Fin 125) (h0 : 0 ≤ mel (ix2 n j)) (ht : mel (ix2 n j) ≠ ⊤) :
    ∑ d : Fin 128, X (ix4 b d t n) * (W (ix4 n d ch j) * mel (ix2 n j)) = part X W mel n b ch t j := by
  unfold part
  rw [← sum_mul_of_nonneg _ _ _ h0 ht]
  exact Finset.sum_congr rfl fun d _ => (mul_assoc _ _ _).symm

/-- A band's part at a bin, as a sum over the band's own bins of those that fall there. -/
theorem at_eq_sum (n : Fin 64) (b : Fin 4) (ch : Fin 2) (t : Fin 256) (p : Fin 1025) :
    at_ X W mel st n b ch t p = ∑ j : Fin 125, if st n + j.val = p.val then part X W mel n b ch t j else 0 := by
  unfold at_
  by_cases h : st n ≤ p.val ∧ p.val < st n + 125
  · rw [dif_pos h, Finset.sum_eq_single (⟨p.val - st n, by omega⟩ : Fin 125)]
    · exact (if_pos (by show st n + (p.val - st n) = p.val; omega)).symm
    · intro j _ hj
      refine if_neg fun e => hj (Fin.ext ?_)
      show j.val = p.val - st n
      omega
    · exact fun hn => absurd (Finset.mem_univ _) hn
  · rw [dif_neg h]
    refine (Finset.sum_eq_zero fun j _ => if_neg fun e => h ?_).symm
    have := j.isLt
    omega

/-- Multiplying by the reciprocal and dividing agree where the divisor is not zero. -/
theorem mul_div_one (s o : EReal) (ho : o ≠ 0) : s * Ideal.div 1 o = s * o⁻¹ := by
  unfold Ideal.div
  rw [if_neg ho, one_mul]

theorem div_eq (s o : EReal) (ho : o ≠ 0) : Ideal.div s o = s * o⁻¹ := by
  unfold Ideal.div
  rw [if_neg ho]

end Cert.Spec

end
-- ==== Proof.Band.Value.lean ====
module

public import proofs.«01_k».proof.Proof.Band.Blocks
public import proofs.«01_k».proof.Proof.Spec

/-!
The kernel's result is the whole-array function, when the filter weights are nonnegative and finite and the overlap window is nowhere
zero.
-/

@[expose] public section

set_option maxRecDepth 16384

noncomputable section

namespace Cert.KernelIdeal.Band

open Cert.KernelIdeal.Gen
open Idealize.ShloMosaic Idealize.ShloMosaic.TcCoe Idealize.ShloMosaic.ValueIdx

variable (m : (ℓ : Loc nD τ sig) → Buf (Elt Ideal) ℓ)

/-- The first bin of each band. -/
abbrev starts (n : Fin 64) : ℕ := startOf n.val n.isLt

/-- What one band adds, in the arguments. -/
theorem bandOf_eq (c : Dev nD) (hm : ∀ i, 0 ≤ argMel m c i ∧ argMel m c i ≠ ⊤) (t : Fin (cfgM m).N) (q : Fin 4) (n : Fin 64) (hn : n.val = 4 * t.val + q.val)
    (b : Fin 4) (ch : Fin 2) (r : Fin 256) (p : Fin 1025) :
    bandOf (iblk m c 0 t) (iblk m c 1 t) q (starts n) (ix4 b ch r ⟨p.val, by omega⟩)
      = Cert.Spec.at_ (argX m c) (argW m c) (argMel m c) starts n b ch r p := by
  have en : (⟨4 * t.val + q.val, by have := lt16 m t; omega⟩ : Fin 64) = n := Fin.ext hn.symm
  unfold bandOf Cert.Spec.at_
  by_cases h : starts n ≤ p.val ∧ p.val < starts n + 125
  · rw [dif_pos h, dif_pos h]
    rw [← Cert.Spec.part_scaled _ _ _ _ _ _ _ _ (hm _).1 (hm _).2]
    refine Finset.sum_congr rfl fun d _ => congrArg₂ (· * ·) ?_ ?_
    · refine (iblk0_apply m c t q _ d).trans ?_
      rw [en]
      exact x_apply m c n b r d
    · refine (iblk1_apply m c t q d _).trans ?_
      rw [en]
      exact w_apply m c n d ch ⟨p.val - starts n, by omega⟩
  · rw [dif_neg h, dif_neg h]

/-- The kernel's result. -/
theorem result_eq (c : Dev nD) (hm : ∀ i, 0 ≤ argMel m c i ∧ argMel m c i ≠ ⊤) (ho : ∀ i, argOla m c i ≠ 0)
    (b : Fin 4) (ch : Fin 2) (r : Fin 256) (p : Fin 1025) :
    result m c (ix4 b ch r p) = Cert.Spec.whole (argX m c) (argW m c) (argMel m c) (argOla m c) starts b ch r p := by
  unfold result
  rw [extractStridedSlice_apply _ _ Facts₀.slices_S4x2x256x1088_S4x2x256x1025_0_0_0_0 _ (ix4 b ch r ⟨p.val, by omega⟩) (by
    intro a
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm), outAt_apply]
  have eo : iblk m c 2 (tLast m) (ix2 0 ⟨p.val, by omega⟩) = argOla m c (ix1 p) := (iblk2_apply m c _ _).trans (ola_apply m c p)
  refine (congrArg₂ (fun s o => s * Ideal.div 1 o) ?_ eo).trans (Cert.Spec.mul_div_one _ _ (ho _))
  rw [← Equiv.sum_comp (finProdFinEquiv : Fin 16 × Fin 4 ≃ Fin 64), Fintype.sum_prod_type]
  refine Finset.sum_congr rfl fun k _ => Finset.sum_congr rfl fun q _ => ?_
  have e : (finProdFinEquiv (k, q) : Fin (16 * 4)).val = 4 * k.val + q.val := by
    rw [finProdFinEquiv_apply_val]; exact Nat.add_comm _ _
  refine Eq.trans ?_ (bandOf_eq m c hm ⟨k.val, Nat.lt_of_lt_of_eq k.isLt (N_eq m).symm⟩ q (finProdFinEquiv (k, q)) e b ch r p)
  have e' : ∀ (a a' : ℕ) (h : a < 64) (h' : a' < 64), a = a' → startOf a h = startOf a' h' := fun a a' h h' hh => by subst hh; rfl
  rw [show starts (finProdFinEquiv (k, q)) = startOf (4 * k.val + q.val) (by omega) from e' _ _ _ _ e]

end Cert.KernelIdeal.Band

end
-- ==== Proof.RefHits.lean ====
module

public import proofs.«01_k».proof.Proof.Gen.ReferenceIdeal
public import proofs.«01_k».proof.Proof.Spec
public import Idealize.ShloMosaic.Lib.Pipeline.Value
public import Idealize.ShloMosaic.Lib.StackMember
public import Idealize.ShloMosaic.Lib.IdealHost

/-!
The reference's scatter, read at an index: the updates that land at bin `p` of one row are those of the same row whose scatter index is
`p`.
-/

@[expose] public section

set_option maxRecDepth 16384

noncomputable section

namespace Cert.ReferenceIdeal.Closed

open Cert.ReferenceIdeal Cert.ReferenceIdeal.Gen
open Idealize.ShloMosaic Idealize.ShloMosaic.ValueIdx

/-- The scatter's dimension numbers. -/
abbrev dims := scatter_S4x2x256x1025_S8000x1_S4x2x256x8000_012_3_3_1

variable (j : S4x2x256x8000.Idx) (idx : IVec S8000x1 32)

theorem start_three : dims.start j idx 3 = (idx (ix2 (j 3) 0)).toInt := by
  unfold ScatterDims.start
  rw [dif_pos (by decide)]
  refine congrArg (fun k => (idx k).toInt) (funext fun a => Fin.ext ?_)
  match a with
  | ⟨0, _⟩ => rfl
  | ⟨1, _⟩ => rfl

theorem start_zero : dims.start j idx 0 = 0 := by
  unfold ScatterDims.start
  exact dif_neg (by decide)
theorem start_one : dims.start j idx 1 = 0 := by
  unfold ScatterDims.start
  exact dif_neg (by decide)
theorem start_two : dims.start j idx 2 = 0 := by
  unfold ScatterDims.start
  exact dif_neg (by decide)

theorem window_zero : dims.window j 0 = (j 0).val := by
  unfold ScatterDims.window
  rw [dif_pos (by decide)]
  rfl
theorem window_one : dims.window j 1 = (j 1).val := by
  unfold ScatterDims.window
  rw [dif_pos (by decide)]
  rfl
theorem window_two : dims.window j 2 = (j 2).val := by
  unfold ScatterDims.window
  rw [dif_pos (by decide)]
  rfl
theorem window_three : dims.window j 3 = 0 := by
  unfold ScatterDims.window
  exact dif_neg (by decide)

/-- Where an update lands. -/
theorem resultIdx_iff (i : S4x2x256x1025.Idx) :
    dims.resultIdx? j idx = some i
      ↔ j 0 = i 0 ∧ j 1 = i 1 ∧ j 2 = i 2 ∧ (idx (ix2 (j 3) 0)).toInt = (i 3).val := by
  have s0 := start_zero j idx
  have s1 := start_one j idx
  have s2 := start_two j idx
  have s3 := start_three j idx
  have w0 := window_zero j
  have w1 := window_one j
  have w2 := window_two j
  have w3 := window_three j
  unfold ScatterDims.resultIdx?
  constructor
  · intro e
    split at e
    · rename_i h
      have e := Option.some.inj e
      have e0 := congrArg Fin.val (congrFun e 0)
      have e1 := congrArg Fin.val (congrFun e 1)
      have e2 := congrArg Fin.val (congrFun e 2)
      have e3 := congrArg Fin.val (congrFun e 3)
      have h3 := h 3
      dsimp only at e0 e1 e2 e3
      rw [s0, w0] at e0
      rw [s1, w1] at e1
      rw [s2, w2] at e2
      rw [s3, w3] at e3 h3
      refine ⟨Fin.ext ?_, Fin.ext ?_, Fin.ext ?_, ?_⟩ <;> omega
    · exact absurd e (by simp)
  · rintro ⟨e0, e1, e2, e3⟩
    have h : ∀ a, 0 ≤ dims.start j idx a + dims.window j a ∧ dims.start j idx a + dims.window j a < S4x2x256x1025.size a := by
      intro a
      match a with
      | ⟨0, _⟩ =>
        show 0 ≤ dims.start j idx 0 + dims.window j 0 ∧ dims.start j idx 0 + dims.window j 0 < (4 : ℕ)
        have : (j 0).val < 4 := (j 0).isLt
        rw [s0, w0]; omega
      | ⟨1, _⟩ =>
        show 0 ≤ dims.start j idx 1 + dims.window j 1 ∧ dims.start j idx 1 + dims.window j 1 < (2 : ℕ)
        have : (j 1).val < 2 := (j 1).isLt
        rw [s1, w1]; omega
      | ⟨2, _⟩ =>
        show 0 ≤ dims.start j idx 2 + dims.window j 2 ∧ dims.start j idx 2 + dims.window j 2 < (256 : ℕ)
        have : (j 2).val < 256 := (j 2).isLt
        rw [s2, w2]; omega
      | ⟨3, _⟩ =>
        show 0 ≤ dims.start j idx 3 + dims.window j 3 ∧ dims.start j idx 3 + dims.window j 3 < (1025 : ℕ)
        have : (i 3).val < 1025 := (i 3).isLt
        rw [s3, w3, e3]; omega
    rw [dif_pos h]
    refine congrArg some (funext fun a => Fin.ext ?_)
    match a with
    | ⟨0, _⟩ =>
      show (dims.start j idx 0 + dims.window j 0).toNat = (i 0).val
      rw [s0, w0, ← e0]; omega
    | ⟨1, _⟩ =>
      show (dims.start j idx 1 + dims.window j 1).toNat = (i 1).val
      rw [s1, w1, ← e1]; omega
    | ⟨2, _⟩ =>
      show (dims.start j idx 2 + dims.window j 2).toNat = (i 2).val
      rw [s2, w2, ← e2]; omega
    | ⟨3, _⟩ =>
      show (dims.start j idx 3 + dims.window j 3).toNat = (i 3).val
      rw [s3, w3, e3]; omega

/-- The scatter of one row, as a sum over the bands and their bins. -/
theorem scatter_apply (x : FVec Ideal S4x2x256x1025 .f32) (upd : FVec Ideal S4x2x256x8000 .f32) (b : Fin 4) (ch : Fin 2) (t : Fin 256) (p : Fin 1025) :
    Host.scatterAdd dims x idx upd (ix4 b ch t p)
      = x (ix4 b ch t p) + ∑ n : Fin 64, ∑ w : Fin 125,
          if (idx (ix2 (finProdFinEquiv (n, w) : Fin (64 * 125)) 0)).toInt = p.val then upd (ix4 b ch t (finProdFinEquiv (n, w) : Fin (64 * 125))) else 0 := by
  classical
  show Ideal.hostScatterAdd dims x idx upd (ix4 b ch t p) = _
  unfold Ideal.hostScatterAdd
  refine congrArg (x (ix4 b ch t p) + ·) ?_
  have e : ∀ f : Fin 8000 → EReal, (∑ k : Fin 8000, f k) = ∑ n : Fin 64, ∑ w : Fin 125, f (finProdFinEquiv (n, w) : Fin (64 * 125)) := by
    intro f
    rw [← Equiv.sum_comp (finProdFinEquiv : Fin 64 × Fin 125 ≃ Fin (64 * 125)), Fintype.sum_prod_type]
  rw [← e fun k => if (idx (ix2 k 0)).toInt = p.val then upd (ix4 b ch t k) else 0, ← Finset.sum_filter]
  refine Finset.sum_bij' (fun (j : S4x2x256x8000.Idx) _ => (j 3 : Fin 8000)) (fun (k : Fin 8000) _ => (ix4 b ch t k : S4x2x256x8000.Idx)) ?_ ?_ ?_ ?_ ?_
  · intro j hj
    exact Finset.mem_filter.2 ⟨Finset.mem_univ _, ((resultIdx_iff j idx _).1 (Finset.mem_filter.1 hj).2).2.2.2⟩
  · intro k hk
    exact Finset.mem_filter.2 ⟨Finset.mem_univ _, (resultIdx_iff _ idx _).2 ⟨rfl, rfl, rfl, (Finset.mem_filter.1 hk).2⟩⟩
  · intro j hj
    obtain ⟨h0, h1, h2, _⟩ := (resultIdx_iff j idx _).1 (Finset.mem_filter.1 hj).2
    funext a
    match a with
    | ⟨0, _⟩ => exact h0.symm
    | ⟨1, _⟩ => exact h1.symm
    | ⟨2, _⟩ => exact h2.symm
    | ⟨3, _⟩ => rfl
  · intro k _
    rfl
  · intro j hj
    obtain ⟨h0, h1, h2, _⟩ := (resultIdx_iff j idx _).1 (Finset.mem_filter.1 hj).2
    refine congrArg upd (funext fun a => ?_)
    match a with
    | ⟨0, _⟩ => exact h0
    | ⟨1, _⟩ => exact h1
    | ⟨2, _⟩ => exact h2
    | ⟨3, _⟩ => rfl

end Cert.ReferenceIdeal.Closed

end
-- ==== Proof.RefValue.lean ====
module

public import proofs.«01_k».proof.Proof.RefHits
public import proofs.«01_k».proof.Proof.Gen.ReferenceIdeal.Run

/-!
The reference's result, read at an index, is the whole-array function: where each bin with a nonzero
filter weight is the band's first bin plus its own place and has no bias, and the overlap window is nowhere zero.
-/

@[expose] public section

set_option maxRecDepth 16384

noncomputable section

namespace Cert.ReferenceIdeal.Closed

open Cert.ReferenceIdeal Cert.ReferenceIdeal.Gen
open Idealize.ShloMosaic Idealize.ShloMosaic.ValueIdx

variable (X : FVec Ideal S4x128x256x64 .f32) (W : FVec Ideal S64x128x2x125 .f32) (B : FVec Ideal S64x2x125 .f32)
  (M : FVec Ideal S64x125 .f32) (O : FVec Ideal S1025 .f32) (I : IVec S64x125 32)

/-- The projection of every band. -/
theorem dot_apply (n : Fin 64) (ch : Fin 2) (w : Fin 125) (b : Fin 4) (t : Fin 256) :
    Host.dotGeneral dot_S64x128x2x125_S4x128x256x64_S64x2x125x4x256_1_1_23_02_0_3 none W X (ix5 n ch w b t)
      = ∑ d : Fin 128, W (ix4 n d ch w) * X (ix4 b d t n) := by
  show FloatOps.dotGeneral _ none _ W X (ix5 n ch w b t) = _
  rw [Ideal.dotGeneral_apply,
    ← Equiv.sum_comp (contrEquiv1 dot_S64x128x2x125_S4x128x256x64_S64x2x125x4x256_1_1_23_02_0_3 128 rfl rfl).symm]
  refine Finset.sum_congr rfl fun d _ => ?_
  have c3 := contrEquiv1_symm_val dot_S64x128x2x125_S4x128x256x64_S64x2x125x4x256_1_1_23_02_0_3 128 rfl rfl d
  refine congrArg₂ (· * ·) (congrArg W (funext fun a => Fin.ext ?_)) (congrArg X (funext fun a => Fin.ext ?_))
  · match a with
    | ⟨0, _⟩ => rfl
    | ⟨1, _⟩ => exact c3
    | ⟨2, _⟩ => rfl
    | ⟨3, _⟩ => rfl
  · match a with
    | ⟨0, _⟩ => rfl
    | ⟨1, _⟩ => exact c3
    | ⟨2, _⟩ => rfl
    | ⟨3, _⟩ => rfl

/-- The bias, repeated over rows and frames. -/
abbrev biasAll : FVec Ideal S4x256x64x2x125 .f32 :=
  broadcastInDim S4x256x64x2x125 ![0, 1, 2, 3, 4] Facts₀.bcast_S1x1x64x2x125_S4x256x64x2x125_0_1_2_3_4
    (broadcastInDim S1x1x64x2x125 ![2, 3, 4] Facts₀.bcast_S64x2x125_S1x1x64x2x125_2_3_4 B)

theorem biasAll_apply (b : Fin 4) (t : Fin 256) (n : Fin 64) (ch : Fin 2) (w : Fin 125) :
    biasAll B (ix5 b t n ch w) = B (ix3 n ch w) := by
  refine (broadcastInDim_apply _ _ _ _ (ix5 0 0 n ch w) fun a => ?_).trans (broadcastInDim_apply _ _ _ _ (ix3 n ch w) fun a => ?_)
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl

/-- The filter weights, repeated over rows, frames and channels. -/
abbrev melAll : FVec Ideal S4x256x64x2x125 .f32 :=
  broadcastInDim S4x256x64x2x125 ![0, 1, 2, 3, 4] Facts₀.bcast_S1x1x64x1x125_S4x256x64x2x125_0_1_2_3_4
    (broadcastInDim S1x1x64x1x125 ![2, 4] Facts₀.bcast_S64x125_S1x1x64x1x125_2_4 M)

theorem melAll_apply (b : Fin 4) (t : Fin 256) (n : Fin 64) (ch : Fin 2) (w : Fin 125) :
    melAll M (ix5 b t n ch w) = M (ix2 n w) := by
  refine (broadcastInDim_apply _ _ _ _ (ix5 0 0 n 0 w) fun a => ?_).trans (broadcastInDim_apply _ _ _ _ (ix2 n w) fun a => ?_)
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl

/-- The overlap window, repeated over rows, channels and frames. -/
abbrev olaAll : FVec Ideal S4x2x256x1025 .f32 :=
  broadcastInDim S4x2x256x1025 ![0, 1, 2, 3] Facts₀.bcast_S1x1x1x1025_S4x2x256x1025_0_1_2_3
    (broadcastInDim S1x1x1x1025 ![3] Facts₀.bcast_S1025_S1x1x1x1025_3 O)

theorem olaAll_apply (b : Fin 4) (ch : Fin 2) (t : Fin 256) (p : Fin 1025) : olaAll O (ix4 b ch t p) = O (ix1 p) := by
  refine (broadcastInDim_apply _ _ _ _ (ix4 0 0 0 p) fun a => ?_).trans (broadcastInDim_apply _ _ _ _ (ix1 p) fun a => ?_)
  · match a with
    | ⟨0, _⟩ => rfl
    | ⟨1, _⟩ => rfl
    | ⟨2, _⟩ => rfl
    | ⟨3, _⟩ => rfl
  · match a with
    | ⟨0, _⟩ => rfl

/-- What the scatter adds: the projections plus bias, weighted, the bands' bins in one row. -/
abbrev updates : FVec Ideal S4x2x256x8000 .f32 :=
  shapeCast S4x2x256x8000 (transpose S4x2x256x64x125 [0, 3, 1, 2, 4] (mulf (addf (transpose S4x256x64x2x125 [3, 4, 0, 1, 2]
    (Host.dotGeneral dot_S64x128x2x125_S4x128x256x64_S64x2x125x4x256_1_1_23_02_0_3 none W X)
    Facts₀.transposes_S64x2x125x4x256_S4x256x64x2x125_3_4_0_1_2) (biasAll B)) (melAll M))
    Facts₀.transposes_S4x256x64x2x125_S4x2x256x64x125_0_3_1_2_4) Facts₀.shapeCasts_S4x2x256x64x125_S4x2x256x8000

theorem pair_val (n : Fin 64) (w : Fin 125) : (finProdFinEquiv (n, w) : Fin (64 * 125)).val = n.val * 125 + w.val := by
  rw [finProdFinEquiv_apply_val]
  show w.val + 125 * n.val = _
  omega

theorem updates_apply (b : Fin 4) (ch : Fin 2) (t : Fin 256) (n : Fin 64) (w : Fin 125) :
    updates X W B M (ix4 b ch t (finProdFinEquiv (n, w) : Fin (64 * 125)))
      = ((∑ d : Fin 128, W (ix4 n d ch w) * X (ix4 b d t n)) + B (ix3 n ch w)) * M (ix2 n w) := by
  refine (shapeCast_apply _ _ _ (ix5 b ch t n w) ?_).trans ?_
  · rw [Shape.rowMajor_val_five, Shape.rowMajor_val_four]
    show (((b.val * 2 + ch.val) * 256 + t.val) * 64 + n.val) * 125 + w.val
      = ((b.val * 2 + ch.val) * 256 + t.val) * 8000 + (finProdFinEquiv (n, w) : Fin (64 * 125)).val
    rw [pair_val]
    omega
  refine (transpose_apply _ _ _ _ (ix5 b t n ch w) fun a => ?_).trans ?_
  · match a with
    | ⟨0, _⟩ => rfl
    | ⟨1, _⟩ => rfl
    | ⟨2, _⟩ => rfl
    | ⟨3, _⟩ => rfl
    | ⟨4, _⟩ => rfl
  refine congrArg₂ (fun a c : EReal => a * c) (congrArg₂ (fun a c : EReal => a + c) ?_ (biasAll_apply B b t n ch w)) (melAll_apply M b t n ch w)
  refine (transpose_apply _ _ _ _ (ix5 n ch w b t) fun a => ?_).trans (dot_apply X W n ch w b t)
  match a with
  | ⟨0, _⟩ => rfl
  | ⟨1, _⟩ => rfl
  | ⟨2, _⟩ => rfl
  | ⟨3, _⟩ => rfl
  | ⟨4, _⟩ => rfl

/-- The bin indices in one row. -/
abbrev flat : IVec S8000 32 := shapeCast S8000 I Facts₀.shapeCasts_S64x125_S8000

/-- The scatter's indices: a negative one counts from the end. -/
abbrev indices : IVec S8000x1 32 :=
  broadcastInDim S8000x1 ![0] Facts₀.bcast_S8000_S8000x1_0
    (select (cmpi .slt (flat I) (broadcastInDim S8000 ![] Facts₀.bcast_S_S8000 (constantI S_ 32 0#32)))
      (addi (flat I) (broadcastInDim S8000 ![] Facts₀.bcast_S_S8000 (constantI S_ 32 1025#32))) (flat I))

theorem indices_apply (n : Fin 64) (w : Fin 125) (h : 0 ≤ (I (ix2 n w)).toInt) :
    indices I (ix2 (finProdFinEquiv (n, w) : Fin (64 * 125)) 0) = I (ix2 n w) := by
  have ef : flat I (ix1 (finProdFinEquiv (n, w) : Fin (64 * 125))) = I (ix2 n w) := by
    refine shapeCast_apply _ _ _ (ix2 n w) ?_
    rw [Shape.rowMajor_val_one, Shape.rowMajor_val_two]
    exact (pair_val n w).symm
  refine (broadcastInDim_apply _ _ _ _ (ix1 (finProdFinEquiv (n, w) : Fin (64 * 125))) fun a => ?_).trans ?_
  · match a with
    | ⟨0, _⟩ => rfl
  show Scalar.select (IntOp.cmpi .slt (flat I (ix1 (finProdFinEquiv (n, w) : Fin (64 * 125)))) 0#32) _ (flat I (ix1 (finProdFinEquiv (n, w) : Fin (64 * 125)))) = _
  rw [ef]
  unfold Scalar.select
  refine if_neg fun e => ?_
  have := IntOp.cmpi_slt.1 e
  have z : (0#32 : BitVec 32).toInt = 0 := by decide
  omega

/-- The reference's result as one term of its arguments. -/
abbrev whole : FVec Ideal S4x2x256x1025 .f32 :=
  Host.divf (Host.scatterAdd dims (broadcastInDim S4x2x256x1025 ![] Facts₀.bcast_S_S4x2x256x1025 (constant S_ .f32 0x00000000#32)) (indices I) (updates X W B M)) (olaAll O)

theorem whole_apply (st : Fin 64 → ℕ) (hB : ∀ n ch w, M (ix2 n w) = 0 ∨ B (ix3 n ch w) = 0) (hO : ∀ i, O i ≠ 0)
    (hI : ∀ n w, M (ix2 n w) = 0 ∨ (I (ix2 n w)).toInt = ((st n + w.val : ℕ) : ℤ))
    (b : Fin 4) (ch : Fin 2) (t : Fin 256) (p : Fin 1025) :
    whole X W B M O I (ix4 b ch t p) = Cert.Spec.whole X W M O st b ch t p := by
  show Ideal.div (Host.scatterAdd dims _ (indices I) (updates X W B M) (ix4 b ch t p)) (olaAll O (ix4 b ch t p)) = _
  rw [olaAll_apply, Cert.Spec.div_eq _ _ (hO _), scatter_apply]
  unfold Cert.Spec.whole
  refine congrArg (· * (O (ix1 p))⁻¹) ?_
  have ez : (broadcastInDim S4x2x256x1025 ![] Facts₀.bcast_S_S4x2x256x1025 (constant (F := Ideal) S_ .f32 0x00000000#32)) (ix4 b ch t p) = (0 : EReal) :=
    Ideal.ofBits_zero_f32
  rw [ez, zero_add]
  refine Finset.sum_congr rfl fun n _ => ?_
  rw [Cert.Spec.at_eq_sum]
  refine Finset.sum_congr rfl fun w _ => ?_
  have ep : ((∑ d : Fin 128, W (ix4 n d ch w) * X (ix4 b d t n)) + B (ix3 n ch w)) * M (ix2 n w) = Cert.Spec.part X W M n b ch t w := by
    unfold Cert.Spec.part
    rcases hB n ch w with h | h
    · rw [h, mul_zero, mul_zero]
    rw [h, add_zero]
    exact congrArg (· * M (ix2 n w)) (Finset.sum_congr rfl fun d _ => mul_comm _ _)
  rw [updates_apply, ep]
  rcases hI n w with h | h
  · have e0 : Cert.Spec.part X W M n b ch t w = 0 := by
      unfold Cert.Spec.part
      rw [h, mul_zero]
    rw [e0, ite_self, ite_self]
  · rw [indices_apply I n w (by omega), h]
    refine if_congr ?_ rfl rfl
    exact Nat.cast_inj

end Cert.ReferenceIdeal.Closed

end
-- ==== Proof.PreBands.lean ====
module

public import proofs.«01_k».proof.Proof.Gen.Pre_mel_bands
public import proofs.«01_k».proof.Proof.Band.Value
public import proofs.«01_k».proof.Proof.RefValue
public import Idealize.ShloMosaic.Lib.ReduceAll

/-!
What the precondition says, element by element: each filter weight is nonnegative and finite, each bin with a nonzero weight is the
band's first bin plus its own place and has no bias, and the overlap window is nowhere zero.
-/

@[expose] public section

set_option maxRecDepth 16384

noncomputable section

namespace Cert.Pre_mel_bands.Read

open Cert.Pre_mel_bands Cert.Pre_mel_bands.Gen
open Idealize.ShloMosaic Idealize.ShloMosaic.ValueIdx

theorem cmp_oeq (x y : EReal) : Ideal.cmp .oeq x y = 1#1 ↔ x = y := by
  unfold Ideal.cmp
  by_cases h : x = y <;> simp [h]
theorem cmp_une (x y : EReal) : Ideal.cmp .une x y = 1#1 ↔ x ≠ y := by
  unfold Ideal.cmp
  by_cases h : x = y <;> simp [h]
theorem cmp_oge (x y : EReal) : Ideal.cmp .oge x y = 1#1 ↔ y ≤ x := by
  unfold Ideal.cmp
  by_cases h : y ≤ x <;> simp [h]
theorem cmp_olt (x y : EReal) : Ideal.cmp .olt x y = 1#1 ↔ x < y := by
  unfold Ideal.cmp
  by_cases h : x < y <;> simp [h]

/-- The bound the weights are compared with is infinity. -/
theorem ofBits_inf : Ideal.ofBits .f32 0x7F800000#32 = ⊤ := by
  simp [Ideal.ofBits, Ideal.ieee]

/-- The recorded first bins are the kernel's. -/
theorem lit_eq (n : Fin 64) : lit0 n = BitVec.ofNat 32 (Cert.KernelIdeal.Band.starts n) ∧ Cert.KernelIdeal.Band.starts n ≤ 959 := by
  revert n
  decide

variable (X : FVec Ideal S4x128x256x64 .f32) (W : FVec Ideal S64x128x2x125 .f32) (B : FVec Ideal S64x2x125 .f32)
  (M : FVec Ideal S64x125 .f32) (O : FVec Ideal S1025 .f32) (I : IVec S64x125 32)

/-- The expected bin indices. -/
abbrev bins : IVec S64x125 32 :=
  addi (broadcastInDim S64x125 ![0, 1] Facts.bcast_S64x1_S64x125_0_1 (broadcastInDim S64x1 ![0] Facts.bcast_S64_S64x1_0 (fun i => lit0 (S64.rowMajor i) : IVec S64 32)))
    (iotaInDim S64x125 32 1)

theorem bins_apply (n : Fin 64) (w : Fin 125) : bins (ix2 n w) = lit0 n + BitVec.ofNat 32 w.val := by
  refine congrArg₂ (· + ·) ?_ rfl
  refine (broadcastInDim_apply _ _ _ _ (ix2 n 0) fun a => ?_).trans ((broadcastInDim_apply _ _ _ _ (ix1 n) fun a => ?_).trans ?_)
  · match a with
    | ⟨0, _⟩ => rfl
    | ⟨1, _⟩ => rfl
  · match a with
    | ⟨0, _⟩ => rfl
  · exact congrArg lit0 (Fin.ext (Shape.rowMajor_val_one _))

theorem bins_toInt (n : Fin 64) (w : Fin 125) : (bins (ix2 n w)).toInt = ((Cert.KernelIdeal.Band.starts n + w.val : ℕ) : ℤ) := by
  obtain ⟨e, hle⟩ := lit_eq n
  rw [bins_apply, e, ← BitVec.ofNat_add]
  have := w.isLt
  rw [BitVec.toInt_eq_toNat_of_lt (by rw [BitVec.toNat_ofNat]; omega), BitVec.toNat_ofNat, Nat.mod_eq_of_lt (by omega)]

/-- A word per weight, repeated over the channels. -/
theorem spread_apply (x : IVec S64x125 1) (n : Fin 64) (ch : Fin 2) (w : Fin 125) :
    broadcastInDim S64x2x125 ![0, 1, 2] Facts.bcast_S64x1x125_S64x2x125_0_1_2 (broadcastInDim S64x1x125 ![0, 2] Facts.bcast_S64x125_S64x1x125_0_2 x) (ix3 n ch w)
      = x (ix2 n w) := by
  refine (broadcastInDim_apply _ _ _ _ (ix3 n 0 w) fun a => ?_).trans (broadcastInDim_apply _ _ _ _ (ix2 n w) fun a => ?_)
  · match a with
    | ⟨0, _⟩ => rfl
    | ⟨1, _⟩ => rfl
    | ⟨2, _⟩ => rfl
  · match a with
    | ⟨0, _⟩ => rfl
    | ⟨1, _⟩ => rfl

/-- The per-weight part of the precondition. -/
abbrev weightsOk : IVec S64x125 1 :=
  andi (ori (cmpf .oeq M (broadcastInDim S64x125 ![] Facts.bcast_S_S64x125 (constant S_ .f32 0x00000000#32))) (cmpi .eq I bins))
    (andi (cmpf .oge M (broadcastInDim S64x125 ![] Facts.bcast_S_S64x125 (constant S_ .f32 0x00000000#32)))
      (cmpf .olt M (broadcastInDim S64x125 ![] Facts.bcast_S_S64x125 (constant S_ .f32 0x7F800000#32))))

/-- The precondition read back. -/
theorem read (h : fn (F := Ideal) X W B M O I = fun _ => 1#1) :
    (∀ n ch w, M (ix2 n w) = 0 ∨ B (ix3 n ch w) = 0) ∧ (∀ i, O i ≠ 0) ∧ (∀ i, 0 ≤ M i ∧ M i ≠ ⊤)
      ∧ ∀ n w, M (ix2 n w) = 0 ∨ (I (ix2 n w)).toInt = ((Cert.KernelIdeal.Band.starts n + w.val : ℕ) : ℤ) := by
  have hs : ∀ (n : Fin 64) (ch : Fin 2) (w : Fin 125),
      ((M (ix2 n w) = 0 ∨ B (ix3 n ch w) = 0) ∧ weightsOk M I (ix2 n w) = 1#1)
        ∧ Host.reduce IntOp.andi (cmpf .une O (broadcastInDim S1025 ![] Facts.bcast_S_S1025 (constant S_ .f32 0x00000000#32))) (constantI S_ 1 1#1)
            Facts.reducesTo_S1025_S_d0 Facts.h_S_ (fun a => a.elim0) = 1#1 := by
    intro n ch w
    have e := congrFun h (ix3 n ch w)
    obtain ⟨e1, e2⟩ := IntOp.andi_eq_one.1 e
    obtain ⟨e3, e4⟩ := IntOp.andi_eq_one.1 e1
    refine ⟨⟨?_, (spread_apply _ n ch w).symm.trans e4⟩, ?_⟩
    · rcases IntOp.ori_eq_one.1 e3 with e | e
      · exact .inl (((cmp_oeq _ _).1 ((spread_apply _ n ch w).symm.trans e)).trans Ideal.ofBits_zero_f32)
      · exact .inr (((cmp_oeq _ _).1 e).trans Ideal.ofBits_zero_f32)
    · refine Eq.trans (congrArg _ (funext fun a => a.elim0)) e2
  have hw : ∀ (n : Fin 64) (w : Fin 125), (M (ix2 n w) = 0 ∨ I (ix2 n w) = bins (ix2 n w)) ∧ 0 ≤ M (ix2 n w) ∧ M (ix2 n w) ≠ ⊤ := by
    intro n w
    obtain ⟨e1, e2⟩ := IntOp.andi_eq_one.1 (hs n 0 w).1.2
    obtain ⟨e3, e4⟩ := IntOp.andi_eq_one.1 e2
    refine ⟨?_, ?_, ?_⟩
    · rcases IntOp.ori_eq_one.1 e1 with e | e
      · exact .inl (((cmp_oeq _ _).1 e).trans Ideal.ofBits_zero_f32)
      · exact .inr (IntOp.cmpi_eq.1 e)
    · exact le_of_eq_of_le Ideal.ofBits_zero_f32.symm ((cmp_oge _ _).1 e3)
    · exact (lt_of_lt_of_eq ((cmp_olt _ _).1 e4) ofBits_inf).ne
  refine ⟨fun n ch w => (hs n ch w).1.1, fun i => ?_, fun i => ?_, fun n w => ?_⟩
  · haveI : Subsingleton S_.Idx := ⟨fun a b => funext fun k => k.elim0⟩
    have e := Host.reduce_andi_all _ _ _ _ _ (hs 0 0 0).2 i
    exact fun z => (cmp_une _ _).1 e (z.trans Ideal.ofBits_zero_f32.symm)
  · obtain ⟨n, w, rfl⟩ : ∃ (n : Fin 64) (w : Fin 125), i = ix2 n w := ⟨i 0, i 1, eq_ix2 i⟩
    exact (hw n w).2
  · rcases (hw n w).1 with e | e
    · exact .inl e
    · exact .inr (by rw [e]; exact bins_toInt n w)

end Cert.Pre_mel_bands.Read

end
-- ==== Proof.Algebraic.lean ====
module

public import proofs.«01_k».proof.Defs
public import proofs.«01_k».proof.Proof.PreBands

/-!
The value claim: over extended reals, under the precondition, the kernel and the reference end with the same result.
-/

@[expose] public section

noncomputable section

namespace Cert.Proof

open Idealize.ShloMosaic Idealize.ShloMosaic.ValueIdx Idealize.SL.Sem

/-- Under the precondition the two results are equal. -/
theorem results_eq (m : (ℓ : Loc Cert.KernelIdeal.nD Cert.KernelIdeal.τ Cert.KernelIdeal.sig) → Buf (Elt Ideal) ℓ) (c : Dev Cert.KernelIdeal.nD)
    (B : FVec Ideal Cert.KernelIdeal.S64x2x125 .f32) (I : IVec Cert.KernelIdeal.S64x125 32)
    (h : Cert.Pre_mel_bands.fn (F := Ideal) (Cert.KernelIdeal.Band.argX m c) (Cert.KernelIdeal.Band.argW m c) B (Cert.KernelIdeal.Band.argMel m c) (Cert.KernelIdeal.Band.argOla m c) I = fun _ => 1#1) :
    Cert.ReferenceIdeal.Closed.whole (Cert.KernelIdeal.Band.argX m c) (Cert.KernelIdeal.Band.argW m c) B (Cert.KernelIdeal.Band.argMel m c) (Cert.KernelIdeal.Band.argOla m c) I
      = Cert.KernelIdeal.Band.result m c := by
  obtain ⟨hB, hO, hM, hI⟩ := Cert.Pre_mel_bands.Read.read _ _ _ _ _ _ h
  funext i
  obtain ⟨b, ch, t, p, rfl⟩ : ∃ (b : Fin 4) (ch : Fin 2) (t : Fin 256) (p : Fin 1025), i = ix4 b ch t p := ⟨i 0, i 1, i 2, i 3, eq_ix4 i⟩
  exact (Cert.ReferenceIdeal.Closed.whole_apply _ _ _ _ _ _ Cert.KernelIdeal.Band.starts hB hO hI b ch t p).trans
    (Cert.KernelIdeal.Band.result_eq m c hM hO b ch t p).symm

theorem algebraic : @Cert.algebraic_KernelIdeal_ReferenceIdeal_pre_mel_bands Cert.KernelIdeal.Gen.facts Cert.ReferenceIdeal.Gen.facts Cert.Pre_mel_bands.Gen.facts := by
  intro m g m' g' hpre hargs
  refine ⟨Cert.KernelIdeal.Band.result m, ?_, ?_⟩
  · exact (θ_run _ _ _).mono (fun _ h => h.1) (Cert.KernelIdeal.Band.run_result (F := Ideal) m g)
  · refine (θ_run _ _ _).mono (fun _ h c => ⟨(h c).1.trans ?_, (h c).2⟩) (Cert.ReferenceIdeal.Value.run (F := Ideal) m' g')
    obtain ⟨a0, a1, a2, a3, a4, a5⟩ := hargs c
    rw [a0, a1, a2, a3, a4, a5]
    exact results_eq m c _ _ (hpre c)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_mel_bands
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_mel_bands.Gen.facts, by
  exact ⟨frame_kernel, frame_kernelIdeal, (fun m g _ => frame_kernelIdeal m g trivial), frame_reference,
    (fun m g _ => frame_reference m g trivial), trivial, algebraic⟩⟩

end Cert.Proof

end
